-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_circuit [hPre_circuit : Cert.Pre_circuit.Facts] (m : (ℓ : Loc Cert.KernelIdeal.nD Cert.KernelIdeal.τ Cert.KernelIdeal.sig) → Buf (Elt Ideal) ℓ) : Prop :=
  ∀ c : Dev Cert.KernelIdeal.nD,
    (Cert.Pre_circuit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_circuit [hPre_circuit : Cert.Pre_circuit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_circuit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_circuit [hKernelIdeal : Cert.KernelIdeal.Facts] [hPre_circuit : Cert.Pre_circuit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_circuit m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_circuit [hReferenceIdeal : Cert.ReferenceIdeal.Facts] [hPre_circuit : Cert.Pre_circuit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_circuit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_circuit [hKernelIdeal : Cert.KernelIdeal.Facts] [hReferenceIdeal : Cert.ReferenceIdeal.Facts] [hPre_circuit : Cert.Pre_circuit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_circuit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_circuit : Cert.Pre_circuit.Facts),
    quiescent_Kernel (hKernel := hKernel)
    ∧ quiescent_KernelIdeal (hKernelIdeal := hKernelIdeal)
    ∧ quiescent_KernelIdeal_pre_circuit (hKernelIdeal := hKernelIdeal) (hPre_circuit := hPre_circuit)
    ∧ quiescent_ReferenceIdeal (hReferenceIdeal := hReferenceIdeal)
    ∧ quiescent_ReferenceIdeal_pre_circuit (hReferenceIdeal := hReferenceIdeal) (hPre_circuit := hPre_circuit)
    ∧ preserves_Kernel_KernelIdeal
    ∧ algebraic_KernelIdeal_ReferenceIdeal_pre_circuit (hKernelIdeal := hKernelIdeal) (hReferenceIdeal := hReferenceIdeal) (hPre_circuit := hPre_circuit)
-- ==== Pre_circuit.lean ====
abbrev S128x65536 : Shape := ⟨2, ![128, 65536]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S_ : Shape := ⟨0, ![]⟩

class Facts : Prop where
  bcast_S_S128x2 : S_.BroadcastsInDim S128x2 (![] : Fin 0 → Fin S128x2.rank)
  reducesTo_S128x2_S_d0_1 : S128x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S32x2 : S_.BroadcastsInDim S32x2 (![] : Fin 0 → Fin S32x2.rank)
  reducesTo_S32x2_S_d0_1 : S32x2.ReducesTo [0, 1] S_
  bcast_S_S16x2 : S_.BroadcastsInDim S16x2 (![] : Fin 0 → Fin S16x2.rank)
  reducesTo_S16x2_S_d0_1 : S16x2.ReducesTo [0, 1] S_

variable [Facts]

def fn_part2 {F : FTy → Type} [FloatOps F] (main_v28 : IVec S_ 1) (main_v36 : IVec S16x2 1) : IVec S_ 1 :=
  let main_c_10 : IVec S_ 1 := constantI S_ 1 1#1
  let main_v37 : IVec S_ 1 := (fun x v => Host.reduce IntOp.andi x v reducesTo_S16x2_S_d0_1 h_S_) main_v36 main_c_10
  let main_v38 : IVec S_ 1 := andi main_v28 main_v37
  main_v38

def fn_part1 {F : FTy → Type} [FloatOps F] (main_arg3 : IVec S32x2 32) (main_arg4 : IVec S16x2 32) (main_v8 : IVec S_ 1) (main_v17 : IVec S_ 1) : IVec S_ 1 :=
  let main_v18 : IVec S_ 1 := andi main_v8 main_v17
  let main_v19 : IVec S32x2 32 := iotaInDim S32x2 32 0
  let main_c_5 : IVec S_ 32 := constantI S_ 32 2#32
  let main_v20 : IVec S32x2 32 := broadcastInDim S32x2 ![] bcast_S_S32x2 main_c_5
  let main_v21 : IVec S32x2 32 := muli main_v20 main_v19
  let main_c_6 : IVec S_ 32 := constantI S_ 32 0#32
  let main_v22 : IVec S32x2 32 := broadcastInDim S32x2 ![] bcast_S_S32x2 main_c_6
  let main_v23 : IVec S32x2 32 := addi main_v22 main_v21
  let main_v24 : IVec S32x2 32 := iotaInDim S32x2 32 1
  let main_v25 : IVec S32x2 32 := addi main_v23 main_v24
  let main_v26 : IVec S32x2 1 := cmpi .eq main_arg3 main_v25
  let main_c_7 : IVec S_ 1 := constantI S_ 1 1#1
  let main_v27 : IVec S_ 1 := (fun x v => Host.reduce IntOp.andi x v reducesTo_S32x2_S_d0_1 h_S_) main_v26 main_c_7
  let main_v28 : IVec S_ 1 := andi main_v18 main_v27
  let main_v29 : IVec S16x2 32 := iotaInDim S16x2 32 0
  let main_c_8 : IVec S_ 32 := constantI S_ 32 2#32
  let main_v30 : IVec S16x2 32 := broadcastInDim S16x2 ![] bcast_S_S16x2 main_c_8
  let main_v31 : IVec S16x2 32 := muli main_v30 main_v29
  let main_c_9 : IVec S_ 32 := constantI S_ 32 0#32
  let main_v32 : IVec S16x2 32 := broadcastInDim S16x2 ![] bcast_S_S16x2 main_c_9
  let main_v33 : IVec S16x2 32 := addi main_v32 main_v31
  let main_v34 : IVec S16x2 32 := iotaInDim S16x2 32 1
  let main_v35 : IVec S16x2 32 := addi main_v33 main_v34
  let main_v36 : IVec S16x2 1 := cmpi .eq main_arg4 main_v35
  fn_part2 (F := F) main_v28 main_v36

def fn {F : FTy → Type} [FloatOps F] (main_arg0 : FVec F S128x65536 .f32) (main_arg1 : IVec S128x2 32) (main_arg2 : IVec S64x2 32) (main_arg3 : IVec S32x2 32) (main_arg4 : IVec S16x2 32) : IVec S_ 1 :=
  let main_v0 : IVec S128x2 32 := iotaInDim S128x2 32 0
  let main_c : IVec S_ 32 := constantI S_ 32 2#32
  let main_v1 : IVec S128x2 32 := broadcastInDim S128x2 ![] bcast_S_S128x2 main_c
  let main_v2 : IVec S128x2 32 := muli main_v1 main_v0
  let main_c_0 : IVec S_ 32 := constantI S_ 32 2#32
  let main_v3 : IVec S128x2 32 := broadcastInDim S128x2 ![] bcast_S_S128x2 main_c_0
  let main_v4 : IVec S128x2 32 := addi main_v3 main_v2
  let main_v5 : IVec S128x2 32 := iotaInDim S128x2 32 1
  let main_v6 : IVec S128x2 32 := addi main_v4 main_v5
  let main_v7 : IVec S128x2 1 := cmpi .eq main_arg1 main_v6
  let main_c_1 : IVec S_ 1 := constantI S_ 1 1#1
  let main_v8 : IVec S_ 1 := (fun x v => Host.reduce IntOp.andi x v reducesTo_S128x2_S_d0_1 h_S_) main_v7 main_c_1
  let main_v9 : IVec S64x2 32 := iotaInDim S64x2 32 0
  let main_c_2 : IVec S_ 32 := constantI S_ 32 2#32
  let main_v10 : IVec S64x2 32 := broadcastInDim S64x2 ![] bcast_S_S64x2 main_c_2
  let main_v11 : IVec S64x2 32 := muli main_v10 main_v9
  let main_c_3 : IVec S_ 32 := constantI S_ 32 0#32
  let main_v12 : IVec S64x2 32 := broadcastInDim S64x2 ![] bcast_S_S64x2 main_c_3
  let main_v13 : IVec S64x2 32 := addi main_v12 main_v11
  let main_v14 : IVec S64x2 32 := iotaInDim S64x2 32 1
  let main_v15 : IVec S64x2 32 := addi main_v13 main_v14
  let main_v16 : IVec S64x2 1 := cmpi .eq main_arg2 main_v15
  let main_c_4 : IVec S_ 1 := constantI S_ 1 1#1
  let main_v17 : IVec S_ 1 := (fun x v => Host.reduce IntOp.andi x v reducesTo_S64x2_S_d0_1 h_S_) main_v16 main_c_4
  fn_part1 (F := F) main_arg3 main_arg4 main_v8 main_v17
-- ==== Kernel.lean ====
abbrev S128x65536 : Shape := ⟨2, ![128, 65536]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S16x65536 : Shape := ⟨2, ![16, 65536]⟩
abbrev S128x512 : Shape := ⟨2, ![128, 512]⟩
abbrev S16x512 : Shape := ⟨2, ![16, 512]⟩
abbrev S_ : Shape := ⟨0, ![]⟩
abbrev S1x16 : Shape := ⟨2, ![1, 16]⟩
abbrev S16 : Shape := ⟨1, ![16]⟩

abbrev nBuf : Table → Nat
  | .hbm => 6
  | .local .scVector .vmem => 2
  | _ => 0

abbrev bufTy : (tb : Table) → Fin (nBuf tb) → BufTy
  | .hbm, ⟨0, _⟩ => ⟨S128x65536, .f32⟩
  | .hbm, ⟨1, _⟩ => ⟨S128x2, .i32⟩
  | .hbm, ⟨2, _⟩ => ⟨S64x2, .i32⟩
  | .hbm, ⟨3, _⟩ => ⟨S32x2, .i32⟩
  | .hbm, ⟨4, _⟩ => ⟨S16x2, .i32⟩
  | .hbm, ⟨5, _⟩ => ⟨S16x65536, .f32⟩
  | .local .scVector .vmem, ⟨0, _⟩ => ⟨S128x512, .f32⟩
  | .local .scVector .vmem, ⟨1, _⟩ => ⟨S16x512, .f32⟩
  | _, _ => ⟨S128x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_14_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  ![0, v3.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_mult1 (k0_t1 : Fin k0_t1_loop.trips) : BitVec 32 :=
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  v11
def k0_off2 (k0_t1 : Fin k0_t1_loop.trips) : Fin 2 → Nat :=
  let c0_i32_14 : BitVec 32 := 0#32
  let v13 : Index := Scalar.indexCast c0_i32_14
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v14 : Index := Scalar.indexCast v12
  ![0, v14.toNat]
def k0_off3 (k0_t1 : Fin k0_t1_loop.trips) : Fin 2 → Nat :=
  let c1_i32_15 : BitVec 32 := 1#32
  let v20 : Index := Scalar.indexCast c1_i32_15
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v21 : Index := Scalar.indexCast v12
  ![1, v21.toNat]
def k0_off4 (k0_t1 : Fin k0_t1_loop.trips) : Fin 2 → Nat :=
  let c2_i32_17 : BitVec 32 := 2#32
  let v27 : Index := Scalar.indexCast c2_i32_17
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v28 : Index := Scalar.indexCast v12
  ![2, v28.toNat]
def k0_off5 (k0_t1 : Fin k0_t1_loop.trips) : Fin 2 → Nat :=
  let c3_i32 : BitVec 32 := 3#32
  let v34 : Index := Scalar.indexCast c3_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v35 : Index := Scalar.indexCast v12
  ![3, v35.toNat]
def k0_off6 (k0_t1 : Fin k0_t1_loop.trips) : Fin 2 → Nat :=
  let c4_i32 : BitVec 32 := 4#32
  let v41 : Index := Scalar.indexCast c4_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v42 : Index := Scalar.indexCast v12
  ![4, v42.toNat]
def k0_off7 (k0_t1 : Fin k0_t1_loop.trips) : Fin 2 → Nat :=
  let c5_i32 : BitVec 32 := 5#32
  let v48 : Index := Scalar.indexCast c5_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v49 : Index := Scalar.indexCast v12
  ![5, v49.toNat]
def k0_off8 (k0_t1 : Fin k0_t1_loop.trips) : Fin 2 → Nat :=
  let c6_i32 : BitVec 32 := 6#32
  let v55 : Index := Scalar.indexCast c6_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v56 : Index := Scalar.indexCast v12
  ![6, v56.toNat]
def k0_off9 (k0_t1 : Fin k0_t1_loop.trips) : Fin 2 → Nat :=
  let c7_i32 : BitVec 32 := 7#32
  let v62 : Index := Scalar.indexCast c7_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v63 : Index := Scalar.indexCast v12
  ![7, v63.toNat]
def k0_off10 (k0_t1 : Fin k0_t1_loop.trips) : Fin 2 → Nat :=
  let c0_i32_24 : BitVec 32 := 0#32
  let v76 : Index := Scalar.indexCast c0_i32_24
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v77 : Index := Scalar.indexCast v12
  ![0, v77.toNat]
def k0_off11 (k0_t1 : Fin k0_t1_loop.trips) : Fin 2 → Nat :=
  let c8_i32 : BitVec 32 := 8#32
  let v81 : Index := Scalar.indexCast c8_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v82 : Index := Scalar.indexCast v12
  ![8, v82.toNat]
def k0_off12 (k0_t1 : Fin k0_t1_loop.trips) : Fin 2 → Nat :=
  let c9_i32 : BitVec 32 := 9#32
  let v88 : Index := Scalar.indexCast c9_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v89 : Index := Scalar.indexCast v12
  ![9, v89.toNat]
def k0_off13 (k0_t1 : Fin k0_t1_loop.trips) : Fin 2 → Nat :=
  let c10_i32 : BitVec 32 := 10#32
  let v95 : Index := Scalar.indexCast c10_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v96 : Index := Scalar.indexCast v12
  ![10, v96.toNat]
def k0_off14 (k0_t1 : Fin k0_t1_loop.trips) : Fin 2 → Nat :=
  let c11_i32 : BitVec 32 := 11#32
  let v102 : Index := Scalar.indexCast c11_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v103 : Index := Scalar.indexCast v12
  ![11, v103.toNat]
def k0_off15 (k0_t1 : Fin k0_t1_loop.trips) : Fin 2 → Nat :=
  let c12_i32 : BitVec 32 := 12#32
  let v109 : Index := Scalar.indexCast c12_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v110 : Index := Scalar.indexCast v12
  ![12, v110.toNat]
def k0_off16 (k0_t1 : Fin k0_t1_loop.trips) : Fin 2 → Nat :=
  let c13_i32 : BitVec 32 := 13#32
  let v116 : Index := Scalar.indexCast c13_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v117 : Index := Scalar.indexCast v12
  ![13, v117.toNat]
def k0_off17 (k0_t1 : Fin k0_t1_loop.trips) : Fin 2 → Nat :=
  let c14_i32 : BitVec 32 := 14#32
  let v123 : Index := Scalar.indexCast c14_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v124 : Index := Scalar.indexCast v12
  ![14, v124.toNat]
def k0_off18 (k0_t1 : Fin k0_t1_loop.trips) : Fin 2 → Nat :=
  let c15_i32 : BitVec 32 := 15#32
  let v130 : Index := Scalar.indexCast c15_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v131 : Index := Scalar.indexCast v12
  ![15, v131.toNat]
def k0_off19 (k0_t1 : Fin k0_t1_loop.trips) : Fin 2 → Nat :=
  let c1_i32_33 : BitVec 32 := 1#32
  let v144 : Index := Scalar.indexCast c1_i32_33
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v145 : Index := Scalar.indexCast v12
  ![1, v145.toNat]
def k0_off20 (k0_t1 : Fin k0_t1_loop.trips) : Fin 2 → Nat :=
  let c16_i32_34 : BitVec 32 := 16#32
  let v149 : Index := Scalar.indexCast c16_i32_34
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v150 : Index := Scalar.indexCast v12
  ![16, v150.toNat]
def k0_off21 (k0_t1 : Fin k0_t1_loop.trips) : Fin 2 → Nat :=
  let c17_i32 : BitVec 32 := 17#32
  let v156 : Index := Scalar.indexCast c17_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v157 : Index := Scalar.indexCast v12
  ![17, v157.toNat]
def k0_off22 (k0_t1 : Fin k0_t1_loop.trips) : Fin 2 → Nat :=
  let c18_i32 : BitVec 32 := 18#32
  let v163 : Index := Scalar.indexCast c18_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v164 : Index := Scalar.indexCast v12
  ![18, v164.toNat]
def k0_off23 (k0_t1 : Fin k0_t1_loop.trips) : Fin 2 → Nat :=
  let c19_i32 : BitVec 32 := 19#32
  let v170 : Index := Scalar.indexCast c19_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v171 : Index := Scalar.indexCast v12
  ![19, v171.toNat]
def k0_off24 (k0_t1 : Fin k0_t1_loop.trips) : Fin 2 → Nat :=
  let c20_i32 : BitVec 32 := 20#32
  let v177 : Index := Scalar.indexCast c20_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v178 : Index := Scalar.indexCast v12
  ![20, v178.toNat]
def k0_off25 (k0_t1 : Fin k0_t1_loop.trips) : Fin 2 → Nat :=
  let c21_i32 : BitVec 32 := 21#32
  let v184 : Index := Scalar.indexCast c21_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v185 : Index := Scalar.indexCast v12
  ![21, v185.toNat]
def k0_off26 (k0_t1 : Fin k0_t1_loop.trips) : Fin 2 → Nat :=
  let c22_i32 : BitVec 32 := 22#32
  let v191 : Index := Scalar.indexCast c22_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v192 : Index := Scalar.indexCast v12
  ![22, v192.toNat]
def k0_off27 (k0_t1 : Fin k0_t1_loop.trips) : Fin 2 → Nat :=
  let c23_i32 : BitVec 32 := 23#32
  let v198 : Index := Scalar.indexCast c23_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v199 : Index := Scalar.indexCast v12
  ![23, v199.toNat]
def k0_off28 (k0_t1 : Fin k0_t1_loop.trips) : Fin 2 → Nat :=
  let c2_i32_43 : BitVec 32 := 2#32
  let v212 : Index := Scalar.indexCast c2_i32_43
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v213 : Index := Scalar.indexCast v12
  ![2, v213.toNat]
def k0_off29 (k0_t1 : Fin k0_t1_loop.trips) : Fin 2 → Nat :=
  let c24_i32 : BitVec 32 := 24#32
  let v217 : Index := Scalar.indexCast c24_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v218 : Index := Scalar.indexCast v12
  ![24, v218.toNat]
def k0_off30 (k0_t1 : Fin k0_t1_loop.trips) : Fin 2 → Nat :=
  let c25_i32 : BitVec 32 := 25#32
  let v224 : Index := Scalar.indexCast c25_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v225 : Index := Scalar.indexCast v12
  ![25, v225.toNat]
def k0_off31 (k0_t1 : Fin k0_t1_loop.trips) : Fin 2 → Nat :=
  let c26_i32 : BitVec 32 := 26#32
  let v231 : Index := Scalar.indexCast c26_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v232 : Index := Scalar.indexCast v12
  ![26, v232.toNat]
def k0_off32 (k0_t1 : Fin k0_t1_loop.trips) : Fin 2 → Nat :=
  let c27_i32 : BitVec 32 := 27#32
  let v238 : Index := Scalar.indexCast c27_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v239 : Index := Scalar.indexCast v12
  ![27, v239.toNat]
def k0_off33 (k0_t1 : Fin k0_t1_loop.trips) : Fin 2 → Nat :=
  let c28_i32 : BitVec 32 := 28#32
  let v245 : Index := Scalar.indexCast c28_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v246 : Index := Scalar.indexCast v12
  ![28, v246.toNat]
def k0_off34 (k0_t1 : Fin k0_t1_loop.trips) : Fin 2 → Nat :=
  let c29_i32 : BitVec 32 := 29#32
  let v252 : Index := Scalar.indexCast c29_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v253 : Index := Scalar.indexCast v12
  ![29, v253.toNat]
def k0_off35 (k0_t1 : Fin k0_t1_loop.trips) : Fin 2 → Nat :=
  let c30_i32 : BitVec 32 := 30#32
  let v259 : Index := Scalar.indexCast c30_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v260 : Index := Scalar.indexCast v12
  ![30, v260.toNat]
def k0_off36 (k0_t1 : Fin k0_t1_loop.trips) : Fin 2 → Nat :=
  let c31_i32 : BitVec 32 := 31#32
  let v266 : Index := Scalar.indexCast c31_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v267 : Index := Scalar.indexCast v12
  ![31, v267.toNat]
def k0_off37 (k0_t1 : Fin k0_t1_loop.trips) : Fin 2 → Nat :=
  let c3_i32_52 : BitVec 32 := 3#32
  let v280 : Index := Scalar.indexCast c3_i32_52
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v281 : Index := Scalar.indexCast v12
  ![3, v281.toNat]
def k0_off38 (k0_t1 : Fin k0_t1_loop.trips) : Fin 2 → Nat :=
  let c32_i32_53 : BitVec 32 := 32#32
  let v285 : Index := Scalar.indexCast c32_i32_53
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v286 : Index := Scalar.indexCast v12
  ![32, v286.toNat]
def k0_off39 (k0_t1 : Fin k0_t1_loop.trips) : Fin 2 → Nat :=
  let c33_i32 : BitVec 32 := 33#32
  let v292 : Index := Scalar.indexCast c33_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v293 : Index := Scalar.indexCast v12
  ![33, v293.toNat]
def k0_off40 (k0_t1 : Fin k0_t1_loop.trips) : Fin 2 → Nat :=
  let c34_i32 : BitVec 32 := 34#32
  let v299 : Index := Scalar.indexCast c34_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v300 : Index := Scalar.indexCast v12
  ![34, v300.toNat]
def k0_off41 (k0_t1 : Fin k0_t1_loop.trips) : Fin 2 → Nat :=
  let c35_i32 : BitVec 32 := 35#32
  let v306 : Index := Scalar.indexCast c35_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v307 : Index := Scalar.indexCast v12
  ![35, v307.toNat]
def k0_off42 (k0_t1 : Fin k0_t1_loop.trips) : Fin 2 → Nat :=
  let c36_i32 : BitVec 32 := 36#32
  let v313 : Index := Scalar.indexCast c36_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v314 : Index := Scalar.indexCast v12
  ![36, v314.toNat]
def k0_off43 (k0_t1 : Fin k0_t1_loop.trips) : Fin 2 → Nat :=
  let c37_i32 : BitVec 32 := 37#32
  let v320 : Index := Scalar.indexCast c37_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v321 : Index := Scalar.indexCast v12
  ![37, v321.toNat]
def k0_off44 (k0_t1 : Fin k0_t1_loop.trips) : Fin 2 → Nat :=
  let c38_i32 : BitVec 32 := 38#32
  let v327 : Index := Scalar.indexCast c38_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v328 : Index := Scalar.indexCast v12
  ![38, v328.toNat]
def k0_off45 (k0_t1 : Fin k0_t1_loop.trips) : Fin 2 → Nat :=
  let c39_i32 : BitVec 32 := 39#32
  let v334 : Index := Scalar.indexCast c39_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v335 : Index := Scalar.indexCast v12
  ![39, v335.toNat]
def k0_off46 (k0_t1 : Fin k0_t1_loop.trips) : Fin 2 → Nat :=
  let c4_i32_62 : BitVec 32 := 4#32
  let v348 : Index := Scalar.indexCast c4_i32_62
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v349 : Index := Scalar.indexCast v12
  ![4, v349.toNat]
def k0_off47 (k0_t1 : Fin k0_t1_loop.trips) : Fin 2 → Nat :=
  let c40_i32 : BitVec 32 := 40#32
  let v353 : Index := Scalar.indexCast c40_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v354 : Index := Scalar.indexCast v12
  ![40, v354.toNat]
def k0_off48 (k0_t1 : Fin k0_t1_loop.trips) : Fin 2 → Nat :=
  let c41_i32 : BitVec 32 := 41#32
  let v360 : Index := Scalar.indexCast c41_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v361 : Index := Scalar.indexCast v12
  ![41, v361.toNat]
def k0_off49 (k0_t1 : Fin k0_t1_loop.trips) : Fin 2 → Nat :=
  let c42_i32 : BitVec 32 := 42#32
  let v367 : Index := Scalar.indexCast c42_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v368 : Index := Scalar.indexCast v12
  ![42, v368.toNat]
def k0_off50 (k0_t1 : Fin k0_t1_loop.trips) : Fin 2 → Nat :=
  let c43_i32 : BitVec 32 := 43#32
  let v374 : Index := Scalar.indexCast c43_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v375 : Index := Scalar.indexCast v12
  ![43, v375.toNat]
def k0_off51 (k0_t1 : Fin k0_t1_loop.trips) : Fin 2 → Nat :=
  let c44_i32 : BitVec 32 := 44#32
  let v381 : Index := Scalar.indexCast c44_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v382 : Index := Scalar.indexCast v12
  ![44, v382.toNat]
def k0_off52 (k0_t1 : Fin k0_t1_loop.trips) : Fin 2 → Nat :=
  let c45_i32 : BitVec 32 := 45#32
  let v388 : Index := Scalar.indexCast c45_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v389 : Index := Scalar.indexCast v12
  ![45, v389.toNat]
def k0_off53 (k0_t1 : Fin k0_t1_loop.trips) : Fin 2 → Nat :=
  let c46_i32 : BitVec 32 := 46#32
  let v395 : Index := Scalar.indexCast c46_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v396 : Index := Scalar.indexCast v12
  ![46, v396.toNat]
def k0_off54 (k0_t1 : Fin k0_t1_loop.trips) : Fin 2 → Nat :=
  let c47_i32 : BitVec 32 := 47#32
  let v402 : Index := Scalar.indexCast c47_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v403 : Index := Scalar.indexCast v12
  ![47, v403.toNat]
def k0_off55 (k0_t1 : Fin k0_t1_loop.trips) : Fin 2 → Nat :=
  let c5_i32_71 : BitVec 32 := 5#32
  let v416 : Index := Scalar.indexCast c5_i32_71
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v417 : Index := Scalar.indexCast v12
  ![5, v417.toNat]
def k0_off56 (k0_t1 : Fin k0_t1_loop.trips) : Fin 2 → Nat :=
  let c48_i32 : BitVec 32 := 48#32
  let v421 : Index := Scalar.indexCast c48_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v422 : Index := Scalar.indexCast v12
  ![48, v422.toNat]
def k0_off57 (k0_t1 : Fin k0_t1_loop.trips) : Fin 2 → Nat :=
  let c49_i32 : BitVec 32 := 49#32
  let v428 : Index := Scalar.indexCast c49_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v429 : Index := Scalar.indexCast v12
  ![49, v429.toNat]
def k0_off58 (k0_t1 : Fin k0_t1_loop.trips) : Fin 2 → Nat :=
  let c50_i32 : BitVec 32 := 50#32
  let v435 : Index := Scalar.indexCast c50_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v436 : Index := Scalar.indexCast v12
  ![50, v436.toNat]
def k0_off59 (k0_t1 : Fin k0_t1_loop.trips) : Fin 2 → Nat :=
  let c51_i32 : BitVec 32 := 51#32
  let v442 : Index := Scalar.indexCast c51_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v443 : Index := Scalar.indexCast v12
  ![51, v443.toNat]
def k0_off60 (k0_t1 : Fin k0_t1_loop.trips) : Fin 2 → Nat :=
  let c52_i32 : BitVec 32 := 52#32
  let v449 : Index := Scalar.indexCast c52_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v450 : Index := Scalar.indexCast v12
  ![52, v450.toNat]
def k0_off61 (k0_t1 : Fin k0_t1_loop.trips) : Fin 2 → Nat :=
  let c53_i32 : BitVec 32 := 53#32
  let v456 : Index := Scalar.indexCast c53_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v457 : Index := Scalar.indexCast v12
  ![53, v457.toNat]
def k0_off62 (k0_t1 : Fin k0_t1_loop.trips) : Fin 2 → Nat :=
  let c54_i32 : BitVec 32 := 54#32
  let v463 : Index := Scalar.indexCast c54_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v464 : Index := Scalar.indexCast v12
  ![54, v464.toNat]
def k0_off63 (k0_t1 : Fin k0_t1_loop.trips) : Fin 2 → Nat :=
  let c55_i32 : BitVec 32 := 55#32
  let v470 : Index := Scalar.indexCast c55_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v471 : Index := Scalar.indexCast v12
  ![55, v471.toNat]
def k0_off64 (k0_t1 : Fin k0_t1_loop.trips) : Fin 2 → Nat :=
  let c6_i32_80 : BitVec 32 := 6#32
  let v484 : Index := Scalar.indexCast c6_i32_80
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v485 : Index := Scalar.indexCast v12
  ![6, v485.toNat]
def k0_off65 (k0_t1 : Fin k0_t1_loop.trips) : Fin 2 → Nat :=
  let c56_i32 : BitVec 32 := 56#32
  let v489 : Index := Scalar.indexCast c56_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v490 : Index := Scalar.indexCast v12
  ![56, v490.toNat]
def k0_off66 (k0_t1 : Fin k0_t1_loop.trips) : Fin 2 → Nat :=
  let c57_i32 : BitVec 32 := 57#32
  let v496 : Index := Scalar.indexCast c57_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v497 : Index := Scalar.indexCast v12
  ![57, v497.toNat]
def k0_off67 (k0_t1 : Fin k0_t1_loop.trips) : Fin 2 → Nat :=
  let c58_i32 : BitVec 32 := 58#32
  let v503 : Index := Scalar.indexCast c58_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v504 : Index := Scalar.indexCast v12
  ![58, v504.toNat]
def k0_off68 (k0_t1 : Fin k0_t1_loop.trips) : Fin 2 → Nat :=
  let c59_i32 : BitVec 32 := 59#32
  let v510 : Index := Scalar.indexCast c59_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v511 : Index := Scalar.indexCast v12
  ![59, v511.toNat]
def k0_off69 (k0_t1 : Fin k0_t1_loop.trips) : Fin 2 → Nat :=
  let c60_i32 : BitVec 32 := 60#32
  let v517 : Index := Scalar.indexCast c60_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v518 : Index := Scalar.indexCast v12
  ![60, v518.toNat]
def k0_off70 (k0_t1 : Fin k0_t1_loop.trips) : Fin 2 → Nat :=
  let c61_i32 : BitVec 32 := 61#32
  let v524 : Index := Scalar.indexCast c61_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v525 : Index := Scalar.indexCast v12
  ![61, v525.toNat]
def k0_off71 (k0_t1 : Fin k0_t1_loop.trips) : Fin 2 → Nat :=
  let c62_i32 : BitVec 32 := 62#32
  let v531 : Index := Scalar.indexCast c62_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v532 : Index := Scalar.indexCast v12
  ![62, v532.toNat]
def k0_off72 (k0_t1 : Fin k0_t1_loop.trips) : Fin 2 → Nat :=
  let c63_i32 : BitVec 32 := 63#32
  let v538 : Index := Scalar.indexCast c63_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v539 : Index := Scalar.indexCast v12
  ![63, v539.toNat]
def k0_off73 (k0_t1 : Fin k0_t1_loop.trips) : Fin 2 → Nat :=
  let c7_i32_89 : BitVec 32 := 7#32
  let v552 : Index := Scalar.indexCast c7_i32_89
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v553 : Index := Scalar.indexCast v12
  ![7, v553.toNat]
def k0_off74 (k0_t1 : Fin k0_t1_loop.trips) : Fin 2 → Nat :=
  let c64_i32 : BitVec 32 := 64#32
  let v557 : Index := Scalar.indexCast c64_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v558 : Index := Scalar.indexCast v12
  ![64, v558.toNat]
def k0_off75 (k0_t1 : Fin k0_t1_loop.trips) : Fin 2 → Nat :=
  let c65_i32 : BitVec 32 := 65#32
  let v564 : Index := Scalar.indexCast c65_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v565 : Index := Scalar.indexCast v12
  ![65, v565.toNat]
def k0_off76 (k0_t1 : Fin k0_t1_loop.trips) : Fin 2 → Nat :=
  let c66_i32 : BitVec 32 := 66#32
  let v571 : Index := Scalar.indexCast c66_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v572 : Index := Scalar.indexCast v12
  ![66, v572.toNat]
def k0_off77 (k0_t1 : Fin k0_t1_loop.trips) : Fin 2 → Nat :=
  let c67_i32 : BitVec 32 := 67#32
  let v578 : Index := Scalar.indexCast c67_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v579 : Index := Scalar.indexCast v12
  ![67, v579.toNat]
def k0_off78 (k0_t1 : Fin k0_t1_loop.trips) : Fin 2 → Nat :=
  let c68_i32 : BitVec 32 := 68#32
  let v585 : Index := Scalar.indexCast c68_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v586 : Index := Scalar.indexCast v12
  ![68, v586.toNat]
def k0_off79 (k0_t1 : Fin k0_t1_loop.trips) : Fin 2 → Nat :=
  let c69_i32 : BitVec 32 := 69#32
  let v592 : Index := Scalar.indexCast c69_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v593 : Index := Scalar.indexCast v12
  ![69, v593.toNat]
def k0_off80 (k0_t1 : Fin k0_t1_loop.trips) : Fin 2 → Nat :=
  let c70_i32 : BitVec 32 := 70#32
  let v599 : Index := Scalar.indexCast c70_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v600 : Index := Scalar.indexCast v12
  ![70, v600.toNat]
def k0_off81 (k0_t1 : Fin k0_t1_loop.trips) : Fin 2 → Nat :=
  let c71_i32 : BitVec 32 := 71#32
  let v606 : Index := Scalar.indexCast c71_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v607 : Index := Scalar.indexCast v12
  ![71, v607.toNat]
def k0_off82 (k0_t1 : Fin k0_t1_loop.trips) : Fin 2 → Nat :=
  let c8_i32_98 : BitVec 32 := 8#32
  let v620 : Index := Scalar.indexCast c8_i32_98
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v621 : Index := Scalar.indexCast v12
  ![8, v621.toNat]
def k0_off83 (k0_t1 : Fin k0_t1_loop.trips) : Fin 2 → Nat :=
  let c72_i32 : BitVec 32 := 72#32
  let v625 : Index := Scalar.indexCast c72_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v626 : Index := Scalar.indexCast v12
  ![72, v626.toNat]
def k0_off84 (k0_t1 : Fin k0_t1_loop.trips) : Fin 2 → Nat :=
  let c73_i32 : BitVec 32 := 73#32
  let v632 : Index := Scalar.indexCast c73_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v633 : Index := Scalar.indexCast v12
  ![73, v633.toNat]
def k0_off85 (k0_t1 : Fin k0_t1_loop.trips) : Fin 2 → Nat :=
  let c74_i32 : BitVec 32 := 74#32
  let v639 : Index := Scalar.indexCast c74_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v640 : Index := Scalar.indexCast v12
  ![74, v640.toNat]
def k0_off86 (k0_t1 : Fin k0_t1_loop.trips) : Fin 2 → Nat :=
  let c75_i32 : BitVec 32 := 75#32
  let v646 : Index := Scalar.indexCast c75_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v647 : Index := Scalar.indexCast v12
  ![75, v647.toNat]
def k0_off87 (k0_t1 : Fin k0_t1_loop.trips) : Fin 2 → Nat :=
  let c76_i32 : BitVec 32 := 76#32
  let v653 : Index := Scalar.indexCast c76_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v654 : Index := Scalar.indexCast v12
  ![76, v654.toNat]
def k0_off88 (k0_t1 : Fin k0_t1_loop.trips) : Fin 2 → Nat :=
  let c77_i32 : BitVec 32 := 77#32
  let v660 : Index := Scalar.indexCast c77_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v661 : Index := Scalar.indexCast v12
  ![77, v661.toNat]
def k0_off89 (k0_t1 : Fin k0_t1_loop.trips) : Fin 2 → Nat :=
  let c78_i32 : BitVec 32 := 78#32
  let v667 : Index := Scalar.indexCast c78_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v668 : Index := Scalar.indexCast v12
  ![78, v668.toNat]
def k0_off90 (k0_t1 : Fin k0_t1_loop.trips) : Fin 2 → Nat :=
  let c79_i32 : BitVec 32 := 79#32
  let v674 : Index := Scalar.indexCast c79_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v675 : Index := Scalar.indexCast v12
  ![79, v675.toNat]
def k0_off91 (k0_t1 : Fin k0_t1_loop.trips) : Fin 2 → Nat :=
  let c9_i32_107 : BitVec 32 := 9#32
  let v688 : Index := Scalar.indexCast c9_i32_107
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v689 : Index := Scalar.indexCast v12
  ![9, v689.toNat]
def k0_off92 (k0_t1 : Fin k0_t1_loop.trips) : Fin 2 → Nat :=
  let c80_i32 : BitVec 32 := 80#32
  let v693 : Index := Scalar.indexCast c80_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v694 : Index := Scalar.indexCast v12
  ![80, v694.toNat]
def k0_off93 (k0_t1 : Fin k0_t1_loop.trips) : Fin 2 → Nat :=
  let c81_i32 : BitVec 32 := 81#32
  let v700 : Index := Scalar.indexCast c81_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v701 : Index := Scalar.indexCast v12
  ![81, v701.toNat]
def k0_off94 (k0_t1 : Fin k0_t1_loop.trips) : Fin 2 → Nat :=
  let c82_i32 : BitVec 32 := 82#32
  let v707 : Index := Scalar.indexCast c82_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v708 : Index := Scalar.indexCast v12
  ![82, v708.toNat]
def k0_off95 (k0_t1 : Fin k0_t1_loop.trips) : Fin 2 → Nat :=
  let c83_i32 : BitVec 32 := 83#32
  let v714 : Index := Scalar.indexCast c83_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v715 : Index := Scalar.indexCast v12
  ![83, v715.toNat]
def k0_off96 (k0_t1 : Fin k0_t1_loop.trips) : Fin 2 → Nat :=
  let c84_i32 : BitVec 32 := 84#32
  let v721 : Index := Scalar.indexCast c84_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v722 : Index := Scalar.indexCast v12
  ![84, v722.toNat]
def k0_off97 (k0_t1 : Fin k0_t1_loop.trips) : Fin 2 → Nat :=
  let c85_i32 : BitVec 32 := 85#32
  let v728 : Index := Scalar.indexCast c85_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v729 : Index := Scalar.indexCast v12
  ![85, v729.toNat]
def k0_off98 (k0_t1 : Fin k0_t1_loop.trips) : Fin 2 → Nat :=
  let c86_i32 : BitVec 32 := 86#32
  let v735 : Index := Scalar.indexCast c86_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v736 : Index := Scalar.indexCast v12
  ![86, v736.toNat]
def k0_off99 (k0_t1 : Fin k0_t1_loop.trips) : Fin 2 → Nat :=
  let c87_i32 : BitVec 32 := 87#32
  let v742 : Index := Scalar.indexCast c87_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v743 : Index := Scalar.indexCast v12
  ![87, v743.toNat]
def k0_off100 (k0_t1 : Fin k0_t1_loop.trips) : Fin 2 → Nat :=
  let c10_i32_116 : BitVec 32 := 10#32
  let v756 : Index := Scalar.indexCast c10_i32_116
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v757 : Index := Scalar.indexCast v12
  ![10, v757.toNat]
def k0_off101 (k0_t1 : Fin k0_t1_loop.trips) : Fin 2 → Nat :=
  let c88_i32 : BitVec 32 := 88#32
  let v761 : Index := Scalar.indexCast c88_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v762 : Index := Scalar.indexCast v12
  ![88, v762.toNat]
def k0_off102 (k0_t1 : Fin k0_t1_loop.trips) : Fin 2 → Nat :=
  let c89_i32 : BitVec 32 := 89#32
  let v768 : Index := Scalar.indexCast c89_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v769 : Index := Scalar.indexCast v12
  ![89, v769.toNat]
def k0_off103 (k0_t1 : Fin k0_t1_loop.trips) : Fin 2 → Nat :=
  let c90_i32 : BitVec 32 := 90#32
  let v775 : Index := Scalar.indexCast c90_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v776 : Index := Scalar.indexCast v12
  ![90, v776.toNat]
def k0_off104 (k0_t1 : Fin k0_t1_loop.trips) : Fin 2 → Nat :=
  let c91_i32 : BitVec 32 := 91#32
  let v782 : Index := Scalar.indexCast c91_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v783 : Index := Scalar.indexCast v12
  ![91, v783.toNat]
def k0_off105 (k0_t1 : Fin k0_t1_loop.trips) : Fin 2 → Nat :=
  let c92_i32 : BitVec 32 := 92#32
  let v789 : Index := Scalar.indexCast c92_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v790 : Index := Scalar.indexCast v12
  ![92, v790.toNat]
def k0_off106 (k0_t1 : Fin k0_t1_loop.trips) : Fin 2 → Nat :=
  let c93_i32 : BitVec 32 := 93#32
  let v796 : Index := Scalar.indexCast c93_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v797 : Index := Scalar.indexCast v12
  ![93, v797.toNat]
def k0_off107 (k0_t1 : Fin k0_t1_loop.trips) : Fin 2 → Nat :=
  let c94_i32 : BitVec 32 := 94#32
  let v803 : Index := Scalar.indexCast c94_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v804 : Index := Scalar.indexCast v12
  ![94, v804.toNat]
def k0_off108 (k0_t1 : Fin k0_t1_loop.trips) : Fin 2 → Nat :=
  let c95_i32 : BitVec 32 := 95#32
  let v810 : Index := Scalar.indexCast c95_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v811 : Index := Scalar.indexCast v12
  ![95, v811.toNat]
def k0_off109 (k0_t1 : Fin k0_t1_loop.trips) : Fin 2 → Nat :=
  let c11_i32_125 : BitVec 32 := 11#32
  let v824 : Index := Scalar.indexCast c11_i32_125
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v825 : Index := Scalar.indexCast v12
  ![11, v825.toNat]
def k0_off110 (k0_t1 : Fin k0_t1_loop.trips) : Fin 2 → Nat :=
  let c96_i32 : BitVec 32 := 96#32
  let v829 : Index := Scalar.indexCast c96_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v830 : Index := Scalar.indexCast v12
  ![96, v830.toNat]
def k0_off111 (k0_t1 : Fin k0_t1_loop.trips) : Fin 2 → Nat :=
  let c97_i32 : BitVec 32 := 97#32
  let v836 : Index := Scalar.indexCast c97_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v837 : Index := Scalar.indexCast v12
  ![97, v837.toNat]
def k0_off112 (k0_t1 : Fin k0_t1_loop.trips) : Fin 2 → Nat :=
  let c98_i32 : BitVec 32 := 98#32
  let v843 : Index := Scalar.indexCast c98_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v844 : Index := Scalar.indexCast v12
  ![98, v844.toNat]
def k0_off113 (k0_t1 : Fin k0_t1_loop.trips) : Fin 2 → Nat :=
  let c99_i32 : BitVec 32 := 99#32
  let v850 : Index := Scalar.indexCast c99_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v851 : Index := Scalar.indexCast v12
  ![99, v851.toNat]
def k0_off114 (k0_t1 : Fin k0_t1_loop.trips) : Fin 2 → Nat :=
  let c100_i32 : BitVec 32 := 100#32
  let v857 : Index := Scalar.indexCast c100_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v858 : Index := Scalar.indexCast v12
  ![100, v858.toNat]
def k0_off115 (k0_t1 : Fin k0_t1_loop.trips) : Fin 2 → Nat :=
  let c101_i32 : BitVec 32 := 101#32
  let v864 : Index := Scalar.indexCast c101_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v865 : Index := Scalar.indexCast v12
  ![101, v865.toNat]
def k0_off116 (k0_t1 : Fin k0_t1_loop.trips) : Fin 2 → Nat :=
  let c102_i32 : BitVec 32 := 102#32
  let v871 : Index := Scalar.indexCast c102_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v872 : Index := Scalar.indexCast v12
  ![102, v872.toNat]
def k0_off117 (k0_t1 : Fin k0_t1_loop.trips) : Fin 2 → Nat :=
  let c103_i32 : BitVec 32 := 103#32
  let v878 : Index := Scalar.indexCast c103_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v879 : Index := Scalar.indexCast v12
  ![103, v879.toNat]
def k0_off118 (k0_t1 : Fin k0_t1_loop.trips) : Fin 2 → Nat :=
  let c12_i32_134 : BitVec 32 := 12#32
  let v892 : Index := Scalar.indexCast c12_i32_134
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v893 : Index := Scalar.indexCast v12
  ![12, v893.toNat]
def k0_off119 (k0_t1 : Fin k0_t1_loop.trips) : Fin 2 → Nat :=
  let c104_i32 : BitVec 32 := 104#32
  let v897 : Index := Scalar.indexCast c104_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v898 : Index := Scalar.indexCast v12
  ![104, v898.toNat]
def k0_off120 (k0_t1 : Fin k0_t1_loop.trips) : Fin 2 → Nat :=
  let c105_i32 : BitVec 32 := 105#32
  let v904 : Index := Scalar.indexCast c105_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v905 : Index := Scalar.indexCast v12
  ![105, v905.toNat]
def k0_off121 (k0_t1 : Fin k0_t1_loop.trips) : Fin 2 → Nat :=
  let c106_i32 : BitVec 32 := 106#32
  let v911 : Index := Scalar.indexCast c106_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v912 : Index := Scalar.indexCast v12
  ![106, v912.toNat]
def k0_off122 (k0_t1 : Fin k0_t1_loop.trips) : Fin 2 → Nat :=
  let c107_i32 : BitVec 32 := 107#32
  let v918 : Index := Scalar.indexCast c107_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v919 : Index := Scalar.indexCast v12
  ![107, v919.toNat]
def k0_off123 (k0_t1 : Fin k0_t1_loop.trips) : Fin 2 → Nat :=
  let c108_i32 : BitVec 32 := 108#32
  let v925 : Index := Scalar.indexCast c108_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v926 : Index := Scalar.indexCast v12
  ![108, v926.toNat]
def k0_off124 (k0_t1 : Fin k0_t1_loop.trips) : Fin 2 → Nat :=
  let c109_i32 : BitVec 32 := 109#32
  let v932 : Index := Scalar.indexCast c109_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v933 : Index := Scalar.indexCast v12
  ![109, v933.toNat]
def k0_off125 (k0_t1 : Fin k0_t1_loop.trips) : Fin 2 → Nat :=
  let c110_i32 : BitVec 32 := 110#32
  let v939 : Index := Scalar.indexCast c110_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v940 : Index := Scalar.indexCast v12
  ![110, v940.toNat]
def k0_off126 (k0_t1 : Fin k0_t1_loop.trips) : Fin 2 → Nat :=
  let c111_i32 : BitVec 32 := 111#32
  let v946 : Index := Scalar.indexCast c111_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v947 : Index := Scalar.indexCast v12
  ![111, v947.toNat]
def k0_off127 (k0_t1 : Fin k0_t1_loop.trips) : Fin 2 → Nat :=
  let c13_i32_143 : BitVec 32 := 13#32
  let v960 : Index := Scalar.indexCast c13_i32_143
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v961 : Index := Scalar.indexCast v12
  ![13, v961.toNat]
def k0_off128 (k0_t1 : Fin k0_t1_loop.trips) : Fin 2 → Nat :=
  let c112_i32 : BitVec 32 := 112#32
  let v965 : Index := Scalar.indexCast c112_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v966 : Index := Scalar.indexCast v12
  ![112, v966.toNat]
def k0_off129 (k0_t1 : Fin k0_t1_loop.trips) : Fin 2 → Nat :=
  let c113_i32 : BitVec 32 := 113#32
  let v972 : Index := Scalar.indexCast c113_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v973 : Index := Scalar.indexCast v12
  ![113, v973.toNat]
def k0_off130 (k0_t1 : Fin k0_t1_loop.trips) : Fin 2 → Nat :=
  let c114_i32 : BitVec 32 := 114#32
  let v979 : Index := Scalar.indexCast c114_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v980 : Index := Scalar.indexCast v12
  ![114, v980.toNat]
def k0_off131 (k0_t1 : Fin k0_t1_loop.trips) : Fin 2 → Nat :=
  let c115_i32 : BitVec 32 := 115#32
  let v986 : Index := Scalar.indexCast c115_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v987 : Index := Scalar.indexCast v12
  ![115, v987.toNat]
def k0_off132 (k0_t1 : Fin k0_t1_loop.trips) : Fin 2 → Nat :=
  let c116_i32 : BitVec 32 := 116#32
  let v993 : Index := Scalar.indexCast c116_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v994 : Index := Scalar.indexCast v12
  ![116, v994.toNat]
def k0_off133 (k0_t1 : Fin k0_t1_loop.trips) : Fin 2 → Nat :=
  let c117_i32 : BitVec 32 := 117#32
  let v1000 : Index := Scalar.indexCast c117_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1001 : Index := Scalar.indexCast v12
  ![117, v1001.toNat]
def k0_off134 (k0_t1 : Fin k0_t1_loop.trips) : Fin 2 → Nat :=
  let c118_i32 : BitVec 32 := 118#32
  let v1007 : Index := Scalar.indexCast c118_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1008 : Index := Scalar.indexCast v12
  ![118, v1008.toNat]
def k0_off135 (k0_t1 : Fin k0_t1_loop.trips) : Fin 2 → Nat :=
  let c119_i32 : BitVec 32 := 119#32
  let v1014 : Index := Scalar.indexCast c119_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1015 : Index := Scalar.indexCast v12
  ![119, v1015.toNat]
def k0_off136 (k0_t1 : Fin k0_t1_loop.trips) : Fin 2 → Nat :=
  let c14_i32_152 : BitVec 32 := 14#32
  let v1028 : Index := Scalar.indexCast c14_i32_152
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1029 : Index := Scalar.indexCast v12
  ![14, v1029.toNat]
def k0_off137 (k0_t1 : Fin k0_t1_loop.trips) : Fin 2 → Nat :=
  let c120_i32 : BitVec 32 := 120#32
  let v1033 : Index := Scalar.indexCast c120_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1034 : Index := Scalar.indexCast v12
  ![120, v1034.toNat]
def k0_off138 (k0_t1 : Fin k0_t1_loop.trips) : Fin 2 → Nat :=
  let c121_i32 : BitVec 32 := 121#32
  let v1040 : Index := Scalar.indexCast c121_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1041 : Index := Scalar.indexCast v12
  ![121, v1041.toNat]
def k0_off139 (k0_t1 : Fin k0_t1_loop.trips) : Fin 2 → Nat :=
  let c122_i32 : BitVec 32 := 122#32
  let v1047 : Index := Scalar.indexCast c122_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1048 : Index := Scalar.indexCast v12
  ![122, v1048.toNat]
def k0_off140 (k0_t1 : Fin k0_t1_loop.trips) : Fin 2 → Nat :=
  let c123_i32 : BitVec 32 := 123#32
  let v1054 : Index := Scalar.indexCast c123_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1055 : Index := Scalar.indexCast v12
  ![123, v1055.toNat]
def k0_off141 (k0_t1 : Fin k0_t1_loop.trips) : Fin 2 → Nat :=
  let c124_i32 : BitVec 32 := 124#32
  let v1061 : Index := Scalar.indexCast c124_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1062 : Index := Scalar.indexCast v12
  ![124, v1062.toNat]
def k0_off142 (k0_t1 : Fin k0_t1_loop.trips) : Fin 2 → Nat :=
  let c125_i32 : BitVec 32 := 125#32
  let v1068 : Index := Scalar.indexCast c125_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1069 : Index := Scalar.indexCast v12
  ![125, v1069.toNat]
def k0_off143 (k0_t1 : Fin k0_t1_loop.trips) : Fin 2 → Nat :=
  let c126_i32 : BitVec 32 := 126#32
  let v1075 : Index := Scalar.indexCast c126_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1076 : Index := Scalar.indexCast v12
  ![126, v1076.toNat]
def k0_off144 (k0_t1 : Fin k0_t1_loop.trips) : Fin 2 → Nat :=
  let c127_i32 : BitVec 32 := 127#32
  let v1082 : Index := Scalar.indexCast c127_i32
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1083 : Index := Scalar.indexCast v12
  ![127, v1083.toNat]
def k0_off145 (k0_t1 : Fin k0_t1_loop.trips) : Fin 2 → Nat :=
  let c15_i32_161 : BitVec 32 := 15#32
  let v1096 : Index := Scalar.indexCast c15_i32_161
  let c0_i32_0 : BitVec 32 := 0#32
  let c1_i32 : BitVec 32 := 1#32
  let arg6 : BitVec 32 := Scf.iv c0_i32_0 c1_i32 k0_t1
  let c16_i32 : BitVec 32 := 16#32
  let v11 : BitVec 32 := Scalar.muli arg6 c16_i32
  let v12 : BitVec 32 := v11
  let v1097 : Index := Scalar.indexCast v12
  ![15, v1097.toNat]
def k0_off146 (i : grid0.Coords) (c0_i32 : BitVec 32) : Fin 2 → Nat :=
  let c0_i32_14_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  ![0, v3.toNat]
@[reducible] def k0_t2_loop : Scf.Loop 32 :=
  let c0_i32_2 : BitVec 32 := 0#32
  let c32_i32_3 : BitVec 32 := 32#32
  let v6 : BitVec 32 := Scalar.addi c0_i32_2 c32_i32_3
  let c1_i32_4 : BitVec 32 := 1#32
  ⟨c0_i32_2, v6, c1_i32_4⟩
def k0_mult2 (k0_t2 : Fin k0_t2_loop.trips) : BitVec 32 :=
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  v11
def k0_off147 (k0_t2 : Fin k0_t2_loop.trips) : Fin 2 → Nat :=
  let c0_i32_14 : BitVec 32 := 0#32
  let v13 : Index := Scalar.indexCast c0_i32_14
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v14 : Index := Scalar.indexCast v12
  ![0, v14.toNat]
def k0_off148 (k0_t2 : Fin k0_t2_loop.trips) : Fin 2 → Nat :=
  let c1_i32_15 : BitVec 32 := 1#32
  let v20 : Index := Scalar.indexCast c1_i32_15
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v21 : Index := Scalar.indexCast v12
  ![1, v21.toNat]
def k0_off149 (k0_t2 : Fin k0_t2_loop.trips) : Fin 2 → Nat :=
  let c2_i32_17 : BitVec 32 := 2#32
  let v27 : Index := Scalar.indexCast c2_i32_17
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v28 : Index := Scalar.indexCast v12
  ![2, v28.toNat]
def k0_off150 (k0_t2 : Fin k0_t2_loop.trips) : Fin 2 → Nat :=
  let c3_i32 : BitVec 32 := 3#32
  let v34 : Index := Scalar.indexCast c3_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v35 : Index := Scalar.indexCast v12
  ![3, v35.toNat]
def k0_off151 (k0_t2 : Fin k0_t2_loop.trips) : Fin 2 → Nat :=
  let c4_i32 : BitVec 32 := 4#32
  let v41 : Index := Scalar.indexCast c4_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v42 : Index := Scalar.indexCast v12
  ![4, v42.toNat]
def k0_off152 (k0_t2 : Fin k0_t2_loop.trips) : Fin 2 → Nat :=
  let c5_i32 : BitVec 32 := 5#32
  let v48 : Index := Scalar.indexCast c5_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v49 : Index := Scalar.indexCast v12
  ![5, v49.toNat]
def k0_off153 (k0_t2 : Fin k0_t2_loop.trips) : Fin 2 → Nat :=
  let c6_i32 : BitVec 32 := 6#32
  let v55 : Index := Scalar.indexCast c6_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v56 : Index := Scalar.indexCast v12
  ![6, v56.toNat]
def k0_off154 (k0_t2 : Fin k0_t2_loop.trips) : Fin 2 → Nat :=
  let c7_i32 : BitVec 32 := 7#32
  let v62 : Index := Scalar.indexCast c7_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v63 : Index := Scalar.indexCast v12
  ![7, v63.toNat]
def k0_off155 (k0_t2 : Fin k0_t2_loop.trips) : Fin 2 → Nat :=
  let c0_i32_24 : BitVec 32 := 0#32
  let v76 : Index := Scalar.indexCast c0_i32_24
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v77 : Index := Scalar.indexCast v12
  ![0, v77.toNat]
def k0_off156 (k0_t2 : Fin k0_t2_loop.trips) : Fin 2 → Nat :=
  let c8_i32 : BitVec 32 := 8#32
  let v81 : Index := Scalar.indexCast c8_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v82 : Index := Scalar.indexCast v12
  ![8, v82.toNat]
def k0_off157 (k0_t2 : Fin k0_t2_loop.trips) : Fin 2 → Nat :=
  let c9_i32 : BitVec 32 := 9#32
  let v88 : Index := Scalar.indexCast c9_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v89 : Index := Scalar.indexCast v12
  ![9, v89.toNat]
def k0_off158 (k0_t2 : Fin k0_t2_loop.trips) : Fin 2 → Nat :=
  let c10_i32 : BitVec 32 := 10#32
  let v95 : Index := Scalar.indexCast c10_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v96 : Index := Scalar.indexCast v12
  ![10, v96.toNat]
def k0_off159 (k0_t2 : Fin k0_t2_loop.trips) : Fin 2 → Nat :=
  let c11_i32 : BitVec 32 := 11#32
  let v102 : Index := Scalar.indexCast c11_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v103 : Index := Scalar.indexCast v12
  ![11, v103.toNat]
def k0_off160 (k0_t2 : Fin k0_t2_loop.trips) : Fin 2 → Nat :=
  let c12_i32 : BitVec 32 := 12#32
  let v109 : Index := Scalar.indexCast c12_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v110 : Index := Scalar.indexCast v12
  ![12, v110.toNat]
def k0_off161 (k0_t2 : Fin k0_t2_loop.trips) : Fin 2 → Nat :=
  let c13_i32 : BitVec 32 := 13#32
  let v116 : Index := Scalar.indexCast c13_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v117 : Index := Scalar.indexCast v12
  ![13, v117.toNat]
def k0_off162 (k0_t2 : Fin k0_t2_loop.trips) : Fin 2 → Nat :=
  let c14_i32 : BitVec 32 := 14#32
  let v123 : Index := Scalar.indexCast c14_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v124 : Index := Scalar.indexCast v12
  ![14, v124.toNat]
def k0_off163 (k0_t2 : Fin k0_t2_loop.trips) : Fin 2 → Nat :=
  let c15_i32 : BitVec 32 := 15#32
  let v130 : Index := Scalar.indexCast c15_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v131 : Index := Scalar.indexCast v12
  ![15, v131.toNat]
def k0_off164 (k0_t2 : Fin k0_t2_loop.trips) : Fin 2 → Nat :=
  let c1_i32_33 : BitVec 32 := 1#32
  let v144 : Index := Scalar.indexCast c1_i32_33
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v145 : Index := Scalar.indexCast v12
  ![1, v145.toNat]
def k0_off165 (k0_t2 : Fin k0_t2_loop.trips) : Fin 2 → Nat :=
  let c16_i32_34 : BitVec 32 := 16#32
  let v149 : Index := Scalar.indexCast c16_i32_34
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v150 : Index := Scalar.indexCast v12
  ![16, v150.toNat]
def k0_off166 (k0_t2 : Fin k0_t2_loop.trips) : Fin 2 → Nat :=
  let c17_i32 : BitVec 32 := 17#32
  let v156 : Index := Scalar.indexCast c17_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v157 : Index := Scalar.indexCast v12
  ![17, v157.toNat]
def k0_off167 (k0_t2 : Fin k0_t2_loop.trips) : Fin 2 → Nat :=
  let c18_i32 : BitVec 32 := 18#32
  let v163 : Index := Scalar.indexCast c18_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v164 : Index := Scalar.indexCast v12
  ![18, v164.toNat]
def k0_off168 (k0_t2 : Fin k0_t2_loop.trips) : Fin 2 → Nat :=
  let c19_i32 : BitVec 32 := 19#32
  let v170 : Index := Scalar.indexCast c19_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v171 : Index := Scalar.indexCast v12
  ![19, v171.toNat]
def k0_off169 (k0_t2 : Fin k0_t2_loop.trips) : Fin 2 → Nat :=
  let c20_i32 : BitVec 32 := 20#32
  let v177 : Index := Scalar.indexCast c20_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v178 : Index := Scalar.indexCast v12
  ![20, v178.toNat]
def k0_off170 (k0_t2 : Fin k0_t2_loop.trips) : Fin 2 → Nat :=
  let c21_i32 : BitVec 32 := 21#32
  let v184 : Index := Scalar.indexCast c21_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v185 : Index := Scalar.indexCast v12
  ![21, v185.toNat]
def k0_off171 (k0_t2 : Fin k0_t2_loop.trips) : Fin 2 → Nat :=
  let c22_i32 : BitVec 32 := 22#32
  let v191 : Index := Scalar.indexCast c22_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v192 : Index := Scalar.indexCast v12
  ![22, v192.toNat]
def k0_off172 (k0_t2 : Fin k0_t2_loop.trips) : Fin 2 → Nat :=
  let c23_i32 : BitVec 32 := 23#32
  let v198 : Index := Scalar.indexCast c23_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v199 : Index := Scalar.indexCast v12
  ![23, v199.toNat]
def k0_off173 (k0_t2 : Fin k0_t2_loop.trips) : Fin 2 → Nat :=
  let c2_i32_43 : BitVec 32 := 2#32
  let v212 : Index := Scalar.indexCast c2_i32_43
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v213 : Index := Scalar.indexCast v12
  ![2, v213.toNat]
def k0_off174 (k0_t2 : Fin k0_t2_loop.trips) : Fin 2 → Nat :=
  let c24_i32 : BitVec 32 := 24#32
  let v217 : Index := Scalar.indexCast c24_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v218 : Index := Scalar.indexCast v12
  ![24, v218.toNat]
def k0_off175 (k0_t2 : Fin k0_t2_loop.trips) : Fin 2 → Nat :=
  let c25_i32 : BitVec 32 := 25#32
  let v224 : Index := Scalar.indexCast c25_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v225 : Index := Scalar.indexCast v12
  ![25, v225.toNat]
def k0_off176 (k0_t2 : Fin k0_t2_loop.trips) : Fin 2 → Nat :=
  let c26_i32 : BitVec 32 := 26#32
  let v231 : Index := Scalar.indexCast c26_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v232 : Index := Scalar.indexCast v12
  ![26, v232.toNat]
def k0_off177 (k0_t2 : Fin k0_t2_loop.trips) : Fin 2 → Nat :=
  let c27_i32 : BitVec 32 := 27#32
  let v238 : Index := Scalar.indexCast c27_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v239 : Index := Scalar.indexCast v12
  ![27, v239.toNat]
def k0_off178 (k0_t2 : Fin k0_t2_loop.trips) : Fin 2 → Nat :=
  let c28_i32 : BitVec 32 := 28#32
  let v245 : Index := Scalar.indexCast c28_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v246 : Index := Scalar.indexCast v12
  ![28, v246.toNat]
def k0_off179 (k0_t2 : Fin k0_t2_loop.trips) : Fin 2 → Nat :=
  let c29_i32 : BitVec 32 := 29#32
  let v252 : Index := Scalar.indexCast c29_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v253 : Index := Scalar.indexCast v12
  ![29, v253.toNat]
def k0_off180 (k0_t2 : Fin k0_t2_loop.trips) : Fin 2 → Nat :=
  let c30_i32 : BitVec 32 := 30#32
  let v259 : Index := Scalar.indexCast c30_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v260 : Index := Scalar.indexCast v12
  ![30, v260.toNat]
def k0_off181 (k0_t2 : Fin k0_t2_loop.trips) : Fin 2 → Nat :=
  let c31_i32 : BitVec 32 := 31#32
  let v266 : Index := Scalar.indexCast c31_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v267 : Index := Scalar.indexCast v12
  ![31, v267.toNat]
def k0_off182 (k0_t2 : Fin k0_t2_loop.trips) : Fin 2 → Nat :=
  let c3_i32_52 : BitVec 32 := 3#32
  let v280 : Index := Scalar.indexCast c3_i32_52
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v281 : Index := Scalar.indexCast v12
  ![3, v281.toNat]
def k0_off183 (k0_t2 : Fin k0_t2_loop.trips) : Fin 2 → Nat :=
  let c32_i32_53 : BitVec 32 := 32#32
  let v285 : Index := Scalar.indexCast c32_i32_53
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v286 : Index := Scalar.indexCast v12
  ![32, v286.toNat]
def k0_off184 (k0_t2 : Fin k0_t2_loop.trips) : Fin 2 → Nat :=
  let c33_i32 : BitVec 32 := 33#32
  let v292 : Index := Scalar.indexCast c33_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v293 : Index := Scalar.indexCast v12
  ![33, v293.toNat]
def k0_off185 (k0_t2 : Fin k0_t2_loop.trips) : Fin 2 → Nat :=
  let c34_i32 : BitVec 32 := 34#32
  let v299 : Index := Scalar.indexCast c34_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v300 : Index := Scalar.indexCast v12
  ![34, v300.toNat]
def k0_off186 (k0_t2 : Fin k0_t2_loop.trips) : Fin 2 → Nat :=
  let c35_i32 : BitVec 32 := 35#32
  let v306 : Index := Scalar.indexCast c35_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v307 : Index := Scalar.indexCast v12
  ![35, v307.toNat]
def k0_off187 (k0_t2 : Fin k0_t2_loop.trips) : Fin 2 → Nat :=
  let c36_i32 : BitVec 32 := 36#32
  let v313 : Index := Scalar.indexCast c36_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v314 : Index := Scalar.indexCast v12
  ![36, v314.toNat]
def k0_off188 (k0_t2 : Fin k0_t2_loop.trips) : Fin 2 → Nat :=
  let c37_i32 : BitVec 32 := 37#32
  let v320 : Index := Scalar.indexCast c37_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v321 : Index := Scalar.indexCast v12
  ![37, v321.toNat]
def k0_off189 (k0_t2 : Fin k0_t2_loop.trips) : Fin 2 → Nat :=
  let c38_i32 : BitVec 32 := 38#32
  let v327 : Index := Scalar.indexCast c38_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v328 : Index := Scalar.indexCast v12
  ![38, v328.toNat]
def k0_off190 (k0_t2 : Fin k0_t2_loop.trips) : Fin 2 → Nat :=
  let c39_i32 : BitVec 32 := 39#32
  let v334 : Index := Scalar.indexCast c39_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v335 : Index := Scalar.indexCast v12
  ![39, v335.toNat]
def k0_off191 (k0_t2 : Fin k0_t2_loop.trips) : Fin 2 → Nat :=
  let c4_i32_62 : BitVec 32 := 4#32
  let v348 : Index := Scalar.indexCast c4_i32_62
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v349 : Index := Scalar.indexCast v12
  ![4, v349.toNat]
def k0_off192 (k0_t2 : Fin k0_t2_loop.trips) : Fin 2 → Nat :=
  let c40_i32 : BitVec 32 := 40#32
  let v353 : Index := Scalar.indexCast c40_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v354 : Index := Scalar.indexCast v12
  ![40, v354.toNat]
def k0_off193 (k0_t2 : Fin k0_t2_loop.trips) : Fin 2 → Nat :=
  let c41_i32 : BitVec 32 := 41#32
  let v360 : Index := Scalar.indexCast c41_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v361 : Index := Scalar.indexCast v12
  ![41, v361.toNat]
def k0_off194 (k0_t2 : Fin k0_t2_loop.trips) : Fin 2 → Nat :=
  let c42_i32 : BitVec 32 := 42#32
  let v367 : Index := Scalar.indexCast c42_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v368 : Index := Scalar.indexCast v12
  ![42, v368.toNat]
def k0_off195 (k0_t2 : Fin k0_t2_loop.trips) : Fin 2 → Nat :=
  let c43_i32 : BitVec 32 := 43#32
  let v374 : Index := Scalar.indexCast c43_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v375 : Index := Scalar.indexCast v12
  ![43, v375.toNat]
def k0_off196 (k0_t2 : Fin k0_t2_loop.trips) : Fin 2 → Nat :=
  let c44_i32 : BitVec 32 := 44#32
  let v381 : Index := Scalar.indexCast c44_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v382 : Index := Scalar.indexCast v12
  ![44, v382.toNat]
def k0_off197 (k0_t2 : Fin k0_t2_loop.trips) : Fin 2 → Nat :=
  let c45_i32 : BitVec 32 := 45#32
  let v388 : Index := Scalar.indexCast c45_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v389 : Index := Scalar.indexCast v12
  ![45, v389.toNat]
def k0_off198 (k0_t2 : Fin k0_t2_loop.trips) : Fin 2 → Nat :=
  let c46_i32 : BitVec 32 := 46#32
  let v395 : Index := Scalar.indexCast c46_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v396 : Index := Scalar.indexCast v12
  ![46, v396.toNat]
def k0_off199 (k0_t2 : Fin k0_t2_loop.trips) : Fin 2 → Nat :=
  let c47_i32 : BitVec 32 := 47#32
  let v402 : Index := Scalar.indexCast c47_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v403 : Index := Scalar.indexCast v12
  ![47, v403.toNat]
def k0_off200 (k0_t2 : Fin k0_t2_loop.trips) : Fin 2 → Nat :=
  let c5_i32_71 : BitVec 32 := 5#32
  let v416 : Index := Scalar.indexCast c5_i32_71
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v417 : Index := Scalar.indexCast v12
  ![5, v417.toNat]
def k0_off201 (k0_t2 : Fin k0_t2_loop.trips) : Fin 2 → Nat :=
  let c48_i32 : BitVec 32 := 48#32
  let v421 : Index := Scalar.indexCast c48_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v422 : Index := Scalar.indexCast v12
  ![48, v422.toNat]
def k0_off202 (k0_t2 : Fin k0_t2_loop.trips) : Fin 2 → Nat :=
  let c49_i32 : BitVec 32 := 49#32
  let v428 : Index := Scalar.indexCast c49_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v429 : Index := Scalar.indexCast v12
  ![49, v429.toNat]
def k0_off203 (k0_t2 : Fin k0_t2_loop.trips) : Fin 2 → Nat :=
  let c50_i32 : BitVec 32 := 50#32
  let v435 : Index := Scalar.indexCast c50_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v436 : Index := Scalar.indexCast v12
  ![50, v436.toNat]
def k0_off204 (k0_t2 : Fin k0_t2_loop.trips) : Fin 2 → Nat :=
  let c51_i32 : BitVec 32 := 51#32
  let v442 : Index := Scalar.indexCast c51_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v443 : Index := Scalar.indexCast v12
  ![51, v443.toNat]
def k0_off205 (k0_t2 : Fin k0_t2_loop.trips) : Fin 2 → Nat :=
  let c52_i32 : BitVec 32 := 52#32
  let v449 : Index := Scalar.indexCast c52_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v450 : Index := Scalar.indexCast v12
  ![52, v450.toNat]
def k0_off206 (k0_t2 : Fin k0_t2_loop.trips) : Fin 2 → Nat :=
  let c53_i32 : BitVec 32 := 53#32
  let v456 : Index := Scalar.indexCast c53_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v457 : Index := Scalar.indexCast v12
  ![53, v457.toNat]
def k0_off207 (k0_t2 : Fin k0_t2_loop.trips) : Fin 2 → Nat :=
  let c54_i32 : BitVec 32 := 54#32
  let v463 : Index := Scalar.indexCast c54_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v464 : Index := Scalar.indexCast v12
  ![54, v464.toNat]
def k0_off208 (k0_t2 : Fin k0_t2_loop.trips) : Fin 2 → Nat :=
  let c55_i32 : BitVec 32 := 55#32
  let v470 : Index := Scalar.indexCast c55_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v471 : Index := Scalar.indexCast v12
  ![55, v471.toNat]
def k0_off209 (k0_t2 : Fin k0_t2_loop.trips) : Fin 2 → Nat :=
  let c6_i32_80 : BitVec 32 := 6#32
  let v484 : Index := Scalar.indexCast c6_i32_80
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v485 : Index := Scalar.indexCast v12
  ![6, v485.toNat]
def k0_off210 (k0_t2 : Fin k0_t2_loop.trips) : Fin 2 → Nat :=
  let c56_i32 : BitVec 32 := 56#32
  let v489 : Index := Scalar.indexCast c56_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v490 : Index := Scalar.indexCast v12
  ![56, v490.toNat]
def k0_off211 (k0_t2 : Fin k0_t2_loop.trips) : Fin 2 → Nat :=
  let c57_i32 : BitVec 32 := 57#32
  let v496 : Index := Scalar.indexCast c57_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v497 : Index := Scalar.indexCast v12
  ![57, v497.toNat]
def k0_off212 (k0_t2 : Fin k0_t2_loop.trips) : Fin 2 → Nat :=
  let c58_i32 : BitVec 32 := 58#32
  let v503 : Index := Scalar.indexCast c58_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v504 : Index := Scalar.indexCast v12
  ![58, v504.toNat]
def k0_off213 (k0_t2 : Fin k0_t2_loop.trips) : Fin 2 → Nat :=
  let c59_i32 : BitVec 32 := 59#32
  let v510 : Index := Scalar.indexCast c59_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v511 : Index := Scalar.indexCast v12
  ![59, v511.toNat]
def k0_off214 (k0_t2 : Fin k0_t2_loop.trips) : Fin 2 → Nat :=
  let c60_i32 : BitVec 32 := 60#32
  let v517 : Index := Scalar.indexCast c60_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v518 : Index := Scalar.indexCast v12
  ![60, v518.toNat]
def k0_off215 (k0_t2 : Fin k0_t2_loop.trips) : Fin 2 → Nat :=
  let c61_i32 : BitVec 32 := 61#32
  let v524 : Index := Scalar.indexCast c61_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v525 : Index := Scalar.indexCast v12
  ![61, v525.toNat]
def k0_off216 (k0_t2 : Fin k0_t2_loop.trips) : Fin 2 → Nat :=
  let c62_i32 : BitVec 32 := 62#32
  let v531 : Index := Scalar.indexCast c62_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v532 : Index := Scalar.indexCast v12
  ![62, v532.toNat]
def k0_off217 (k0_t2 : Fin k0_t2_loop.trips) : Fin 2 → Nat :=
  let c63_i32 : BitVec 32 := 63#32
  let v538 : Index := Scalar.indexCast c63_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v539 : Index := Scalar.indexCast v12
  ![63, v539.toNat]
def k0_off218 (k0_t2 : Fin k0_t2_loop.trips) : Fin 2 → Nat :=
  let c7_i32_89 : BitVec 32 := 7#32
  let v552 : Index := Scalar.indexCast c7_i32_89
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v553 : Index := Scalar.indexCast v12
  ![7, v553.toNat]
def k0_off219 (k0_t2 : Fin k0_t2_loop.trips) : Fin 2 → Nat :=
  let c64_i32 : BitVec 32 := 64#32
  let v557 : Index := Scalar.indexCast c64_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v558 : Index := Scalar.indexCast v12
  ![64, v558.toNat]
def k0_off220 (k0_t2 : Fin k0_t2_loop.trips) : Fin 2 → Nat :=
  let c65_i32 : BitVec 32 := 65#32
  let v564 : Index := Scalar.indexCast c65_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v565 : Index := Scalar.indexCast v12
  ![65, v565.toNat]
def k0_off221 (k0_t2 : Fin k0_t2_loop.trips) : Fin 2 → Nat :=
  let c66_i32 : BitVec 32 := 66#32
  let v571 : Index := Scalar.indexCast c66_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v572 : Index := Scalar.indexCast v12
  ![66, v572.toNat]
def k0_off222 (k0_t2 : Fin k0_t2_loop.trips) : Fin 2 → Nat :=
  let c67_i32 : BitVec 32 := 67#32
  let v578 : Index := Scalar.indexCast c67_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v579 : Index := Scalar.indexCast v12
  ![67, v579.toNat]
def k0_off223 (k0_t2 : Fin k0_t2_loop.trips) : Fin 2 → Nat :=
  let c68_i32 : BitVec 32 := 68#32
  let v585 : Index := Scalar.indexCast c68_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v586 : Index := Scalar.indexCast v12
  ![68, v586.toNat]
def k0_off224 (k0_t2 : Fin k0_t2_loop.trips) : Fin 2 → Nat :=
  let c69_i32 : BitVec 32 := 69#32
  let v592 : Index := Scalar.indexCast c69_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v593 : Index := Scalar.indexCast v12
  ![69, v593.toNat]
def k0_off225 (k0_t2 : Fin k0_t2_loop.trips) : Fin 2 → Nat :=
  let c70_i32 : BitVec 32 := 70#32
  let v599 : Index := Scalar.indexCast c70_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v600 : Index := Scalar.indexCast v12
  ![70, v600.toNat]
def k0_off226 (k0_t2 : Fin k0_t2_loop.trips) : Fin 2 → Nat :=
  let c71_i32 : BitVec 32 := 71#32
  let v606 : Index := Scalar.indexCast c71_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v607 : Index := Scalar.indexCast v12
  ![71, v607.toNat]
def k0_off227 (k0_t2 : Fin k0_t2_loop.trips) : Fin 2 → Nat :=
  let c8_i32_98 : BitVec 32 := 8#32
  let v620 : Index := Scalar.indexCast c8_i32_98
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v621 : Index := Scalar.indexCast v12
  ![8, v621.toNat]
def k0_off228 (k0_t2 : Fin k0_t2_loop.trips) : Fin 2 → Nat :=
  let c72_i32 : BitVec 32 := 72#32
  let v625 : Index := Scalar.indexCast c72_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v626 : Index := Scalar.indexCast v12
  ![72, v626.toNat]
def k0_off229 (k0_t2 : Fin k0_t2_loop.trips) : Fin 2 → Nat :=
  let c73_i32 : BitVec 32 := 73#32
  let v632 : Index := Scalar.indexCast c73_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v633 : Index := Scalar.indexCast v12
  ![73, v633.toNat]
def k0_off230 (k0_t2 : Fin k0_t2_loop.trips) : Fin 2 → Nat :=
  let c74_i32 : BitVec 32 := 74#32
  let v639 : Index := Scalar.indexCast c74_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v640 : Index := Scalar.indexCast v12
  ![74, v640.toNat]
def k0_off231 (k0_t2 : Fin k0_t2_loop.trips) : Fin 2 → Nat :=
  let c75_i32 : BitVec 32 := 75#32
  let v646 : Index := Scalar.indexCast c75_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v647 : Index := Scalar.indexCast v12
  ![75, v647.toNat]
def k0_off232 (k0_t2 : Fin k0_t2_loop.trips) : Fin 2 → Nat :=
  let c76_i32 : BitVec 32 := 76#32
  let v653 : Index := Scalar.indexCast c76_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v654 : Index := Scalar.indexCast v12
  ![76, v654.toNat]
def k0_off233 (k0_t2 : Fin k0_t2_loop.trips) : Fin 2 → Nat :=
  let c77_i32 : BitVec 32 := 77#32
  let v660 : Index := Scalar.indexCast c77_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v661 : Index := Scalar.indexCast v12
  ![77, v661.toNat]
def k0_off234 (k0_t2 : Fin k0_t2_loop.trips) : Fin 2 → Nat :=
  let c78_i32 : BitVec 32 := 78#32
  let v667 : Index := Scalar.indexCast c78_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v668 : Index := Scalar.indexCast v12
  ![78, v668.toNat]
def k0_off235 (k0_t2 : Fin k0_t2_loop.trips) : Fin 2 → Nat :=
  let c79_i32 : BitVec 32 := 79#32
  let v674 : Index := Scalar.indexCast c79_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v675 : Index := Scalar.indexCast v12
  ![79, v675.toNat]
def k0_off236 (k0_t2 : Fin k0_t2_loop.trips) : Fin 2 → Nat :=
  let c9_i32_107 : BitVec 32 := 9#32
  let v688 : Index := Scalar.indexCast c9_i32_107
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v689 : Index := Scalar.indexCast v12
  ![9, v689.toNat]
def k0_off237 (k0_t2 : Fin k0_t2_loop.trips) : Fin 2 → Nat :=
  let c80_i32 : BitVec 32 := 80#32
  let v693 : Index := Scalar.indexCast c80_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v694 : Index := Scalar.indexCast v12
  ![80, v694.toNat]
def k0_off238 (k0_t2 : Fin k0_t2_loop.trips) : Fin 2 → Nat :=
  let c81_i32 : BitVec 32 := 81#32
  let v700 : Index := Scalar.indexCast c81_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v701 : Index := Scalar.indexCast v12
  ![81, v701.toNat]
def k0_off239 (k0_t2 : Fin k0_t2_loop.trips) : Fin 2 → Nat :=
  let c82_i32 : BitVec 32 := 82#32
  let v707 : Index := Scalar.indexCast c82_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v708 : Index := Scalar.indexCast v12
  ![82, v708.toNat]
def k0_off240 (k0_t2 : Fin k0_t2_loop.trips) : Fin 2 → Nat :=
  let c83_i32 : BitVec 32 := 83#32
  let v714 : Index := Scalar.indexCast c83_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v715 : Index := Scalar.indexCast v12
  ![83, v715.toNat]
def k0_off241 (k0_t2 : Fin k0_t2_loop.trips) : Fin 2 → Nat :=
  let c84_i32 : BitVec 32 := 84#32
  let v721 : Index := Scalar.indexCast c84_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v722 : Index := Scalar.indexCast v12
  ![84, v722.toNat]
def k0_off242 (k0_t2 : Fin k0_t2_loop.trips) : Fin 2 → Nat :=
  let c85_i32 : BitVec 32 := 85#32
  let v728 : Index := Scalar.indexCast c85_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v729 : Index := Scalar.indexCast v12
  ![85, v729.toNat]
def k0_off243 (k0_t2 : Fin k0_t2_loop.trips) : Fin 2 → Nat :=
  let c86_i32 : BitVec 32 := 86#32
  let v735 : Index := Scalar.indexCast c86_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v736 : Index := Scalar.indexCast v12
  ![86, v736.toNat]
def k0_off244 (k0_t2 : Fin k0_t2_loop.trips) : Fin 2 → Nat :=
  let c87_i32 : BitVec 32 := 87#32
  let v742 : Index := Scalar.indexCast c87_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v743 : Index := Scalar.indexCast v12
  ![87, v743.toNat]
def k0_off245 (k0_t2 : Fin k0_t2_loop.trips) : Fin 2 → Nat :=
  let c10_i32_116 : BitVec 32 := 10#32
  let v756 : Index := Scalar.indexCast c10_i32_116
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v757 : Index := Scalar.indexCast v12
  ![10, v757.toNat]
def k0_off246 (k0_t2 : Fin k0_t2_loop.trips) : Fin 2 → Nat :=
  let c88_i32 : BitVec 32 := 88#32
  let v761 : Index := Scalar.indexCast c88_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v762 : Index := Scalar.indexCast v12
  ![88, v762.toNat]
def k0_off247 (k0_t2 : Fin k0_t2_loop.trips) : Fin 2 → Nat :=
  let c89_i32 : BitVec 32 := 89#32
  let v768 : Index := Scalar.indexCast c89_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v769 : Index := Scalar.indexCast v12
  ![89, v769.toNat]
def k0_off248 (k0_t2 : Fin k0_t2_loop.trips) : Fin 2 → Nat :=
  let c90_i32 : BitVec 32 := 90#32
  let v775 : Index := Scalar.indexCast c90_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v776 : Index := Scalar.indexCast v12
  ![90, v776.toNat]
def k0_off249 (k0_t2 : Fin k0_t2_loop.trips) : Fin 2 → Nat :=
  let c91_i32 : BitVec 32 := 91#32
  let v782 : Index := Scalar.indexCast c91_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v783 : Index := Scalar.indexCast v12
  ![91, v783.toNat]
def k0_off250 (k0_t2 : Fin k0_t2_loop.trips) : Fin 2 → Nat :=
  let c92_i32 : BitVec 32 := 92#32
  let v789 : Index := Scalar.indexCast c92_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v790 : Index := Scalar.indexCast v12
  ![92, v790.toNat]
def k0_off251 (k0_t2 : Fin k0_t2_loop.trips) : Fin 2 → Nat :=
  let c93_i32 : BitVec 32 := 93#32
  let v796 : Index := Scalar.indexCast c93_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v797 : Index := Scalar.indexCast v12
  ![93, v797.toNat]
def k0_off252 (k0_t2 : Fin k0_t2_loop.trips) : Fin 2 → Nat :=
  let c94_i32 : BitVec 32 := 94#32
  let v803 : Index := Scalar.indexCast c94_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v804 : Index := Scalar.indexCast v12
  ![94, v804.toNat]
def k0_off253 (k0_t2 : Fin k0_t2_loop.trips) : Fin 2 → Nat :=
  let c95_i32 : BitVec 32 := 95#32
  let v810 : Index := Scalar.indexCast c95_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v811 : Index := Scalar.indexCast v12
  ![95, v811.toNat]
def k0_off254 (k0_t2 : Fin k0_t2_loop.trips) : Fin 2 → Nat :=
  let c11_i32_125 : BitVec 32 := 11#32
  let v824 : Index := Scalar.indexCast c11_i32_125
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v825 : Index := Scalar.indexCast v12
  ![11, v825.toNat]
def k0_off255 (k0_t2 : Fin k0_t2_loop.trips) : Fin 2 → Nat :=
  let c96_i32 : BitVec 32 := 96#32
  let v829 : Index := Scalar.indexCast c96_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v830 : Index := Scalar.indexCast v12
  ![96, v830.toNat]
def k0_off256 (k0_t2 : Fin k0_t2_loop.trips) : Fin 2 → Nat :=
  let c97_i32 : BitVec 32 := 97#32
  let v836 : Index := Scalar.indexCast c97_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v837 : Index := Scalar.indexCast v12
  ![97, v837.toNat]
def k0_off257 (k0_t2 : Fin k0_t2_loop.trips) : Fin 2 → Nat :=
  let c98_i32 : BitVec 32 := 98#32
  let v843 : Index := Scalar.indexCast c98_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v844 : Index := Scalar.indexCast v12
  ![98, v844.toNat]
def k0_off258 (k0_t2 : Fin k0_t2_loop.trips) : Fin 2 → Nat :=
  let c99_i32 : BitVec 32 := 99#32
  let v850 : Index := Scalar.indexCast c99_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v851 : Index := Scalar.indexCast v12
  ![99, v851.toNat]
def k0_off259 (k0_t2 : Fin k0_t2_loop.trips) : Fin 2 → Nat :=
  let c100_i32 : BitVec 32 := 100#32
  let v857 : Index := Scalar.indexCast c100_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v858 : Index := Scalar.indexCast v12
  ![100, v858.toNat]
def k0_off260 (k0_t2 : Fin k0_t2_loop.trips) : Fin 2 → Nat :=
  let c101_i32 : BitVec 32 := 101#32
  let v864 : Index := Scalar.indexCast c101_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v865 : Index := Scalar.indexCast v12
  ![101, v865.toNat]
def k0_off261 (k0_t2 : Fin k0_t2_loop.trips) : Fin 2 → Nat :=
  let c102_i32 : BitVec 32 := 102#32
  let v871 : Index := Scalar.indexCast c102_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v872 : Index := Scalar.indexCast v12
  ![102, v872.toNat]
def k0_off262 (k0_t2 : Fin k0_t2_loop.trips) : Fin 2 → Nat :=
  let c103_i32 : BitVec 32 := 103#32
  let v878 : Index := Scalar.indexCast c103_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v879 : Index := Scalar.indexCast v12
  ![103, v879.toNat]
def k0_off263 (k0_t2 : Fin k0_t2_loop.trips) : Fin 2 → Nat :=
  let c12_i32_134 : BitVec 32 := 12#32
  let v892 : Index := Scalar.indexCast c12_i32_134
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v893 : Index := Scalar.indexCast v12
  ![12, v893.toNat]
def k0_off264 (k0_t2 : Fin k0_t2_loop.trips) : Fin 2 → Nat :=
  let c104_i32 : BitVec 32 := 104#32
  let v897 : Index := Scalar.indexCast c104_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v898 : Index := Scalar.indexCast v12
  ![104, v898.toNat]
def k0_off265 (k0_t2 : Fin k0_t2_loop.trips) : Fin 2 → Nat :=
  let c105_i32 : BitVec 32 := 105#32
  let v904 : Index := Scalar.indexCast c105_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v905 : Index := Scalar.indexCast v12
  ![105, v905.toNat]
def k0_off266 (k0_t2 : Fin k0_t2_loop.trips) : Fin 2 → Nat :=
  let c106_i32 : BitVec 32 := 106#32
  let v911 : Index := Scalar.indexCast c106_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v912 : Index := Scalar.indexCast v12
  ![106, v912.toNat]
def k0_off267 (k0_t2 : Fin k0_t2_loop.trips) : Fin 2 → Nat :=
  let c107_i32 : BitVec 32 := 107#32
  let v918 : Index := Scalar.indexCast c107_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v919 : Index := Scalar.indexCast v12
  ![107, v919.toNat]
def k0_off268 (k0_t2 : Fin k0_t2_loop.trips) : Fin 2 → Nat :=
  let c108_i32 : BitVec 32 := 108#32
  let v925 : Index := Scalar.indexCast c108_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v926 : Index := Scalar.indexCast v12
  ![108, v926.toNat]
def k0_off269 (k0_t2 : Fin k0_t2_loop.trips) : Fin 2 → Nat :=
  let c109_i32 : BitVec 32 := 109#32
  let v932 : Index := Scalar.indexCast c109_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v933 : Index := Scalar.indexCast v12
  ![109, v933.toNat]
def k0_off270 (k0_t2 : Fin k0_t2_loop.trips) : Fin 2 → Nat :=
  let c110_i32 : BitVec 32 := 110#32
  let v939 : Index := Scalar.indexCast c110_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v940 : Index := Scalar.indexCast v12
  ![110, v940.toNat]
def k0_off271 (k0_t2 : Fin k0_t2_loop.trips) : Fin 2 → Nat :=
  let c111_i32 : BitVec 32 := 111#32
  let v946 : Index := Scalar.indexCast c111_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v947 : Index := Scalar.indexCast v12
  ![111, v947.toNat]
def k0_off272 (k0_t2 : Fin k0_t2_loop.trips) : Fin 2 → Nat :=
  let c13_i32_143 : BitVec 32 := 13#32
  let v960 : Index := Scalar.indexCast c13_i32_143
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v961 : Index := Scalar.indexCast v12
  ![13, v961.toNat]
def k0_off273 (k0_t2 : Fin k0_t2_loop.trips) : Fin 2 → Nat :=
  let c112_i32 : BitVec 32 := 112#32
  let v965 : Index := Scalar.indexCast c112_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v966 : Index := Scalar.indexCast v12
  ![112, v966.toNat]
def k0_off274 (k0_t2 : Fin k0_t2_loop.trips) : Fin 2 → Nat :=
  let c113_i32 : BitVec 32 := 113#32
  let v972 : Index := Scalar.indexCast c113_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v973 : Index := Scalar.indexCast v12
  ![113, v973.toNat]
def k0_off275 (k0_t2 : Fin k0_t2_loop.trips) : Fin 2 → Nat :=
  let c114_i32 : BitVec 32 := 114#32
  let v979 : Index := Scalar.indexCast c114_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v980 : Index := Scalar.indexCast v12
  ![114, v980.toNat]
def k0_off276 (k0_t2 : Fin k0_t2_loop.trips) : Fin 2 → Nat :=
  let c115_i32 : BitVec 32 := 115#32
  let v986 : Index := Scalar.indexCast c115_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v987 : Index := Scalar.indexCast v12
  ![115, v987.toNat]
def k0_off277 (k0_t2 : Fin k0_t2_loop.trips) : Fin 2 → Nat :=
  let c116_i32 : BitVec 32 := 116#32
  let v993 : Index := Scalar.indexCast c116_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v994 : Index := Scalar.indexCast v12
  ![116, v994.toNat]
def k0_off278 (k0_t2 : Fin k0_t2_loop.trips) : Fin 2 → Nat :=
  let c117_i32 : BitVec 32 := 117#32
  let v1000 : Index := Scalar.indexCast c117_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1001 : Index := Scalar.indexCast v12
  ![117, v1001.toNat]
def k0_off279 (k0_t2 : Fin k0_t2_loop.trips) : Fin 2 → Nat :=
  let c118_i32 : BitVec 32 := 118#32
  let v1007 : Index := Scalar.indexCast c118_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1008 : Index := Scalar.indexCast v12
  ![118, v1008.toNat]
def k0_off280 (k0_t2 : Fin k0_t2_loop.trips) : Fin 2 → Nat :=
  let c119_i32 : BitVec 32 := 119#32
  let v1014 : Index := Scalar.indexCast c119_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1015 : Index := Scalar.indexCast v12
  ![119, v1015.toNat]
def k0_off281 (k0_t2 : Fin k0_t2_loop.trips) : Fin 2 → Nat :=
  let c14_i32_152 : BitVec 32 := 14#32
  let v1028 : Index := Scalar.indexCast c14_i32_152
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1029 : Index := Scalar.indexCast v12
  ![14, v1029.toNat]
def k0_off282 (k0_t2 : Fin k0_t2_loop.trips) : Fin 2 → Nat :=
  let c120_i32 : BitVec 32 := 120#32
  let v1033 : Index := Scalar.indexCast c120_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1034 : Index := Scalar.indexCast v12
  ![120, v1034.toNat]
def k0_off283 (k0_t2 : Fin k0_t2_loop.trips) : Fin 2 → Nat :=
  let c121_i32 : BitVec 32 := 121#32
  let v1040 : Index := Scalar.indexCast c121_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1041 : Index := Scalar.indexCast v12
  ![121, v1041.toNat]
def k0_off284 (k0_t2 : Fin k0_t2_loop.trips) : Fin 2 → Nat :=
  let c122_i32 : BitVec 32 := 122#32
  let v1047 : Index := Scalar.indexCast c122_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1048 : Index := Scalar.indexCast v12
  ![122, v1048.toNat]
def k0_off285 (k0_t2 : Fin k0_t2_loop.trips) : Fin 2 → Nat :=
  let c123_i32 : BitVec 32 := 123#32
  let v1054 : Index := Scalar.indexCast c123_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1055 : Index := Scalar.indexCast v12
  ![123, v1055.toNat]
def k0_off286 (k0_t2 : Fin k0_t2_loop.trips) : Fin 2 → Nat :=
  let c124_i32 : BitVec 32 := 124#32
  let v1061 : Index := Scalar.indexCast c124_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1062 : Index := Scalar.indexCast v12
  ![124, v1062.toNat]
def k0_off287 (k0_t2 : Fin k0_t2_loop.trips) : Fin 2 → Nat :=
  let c125_i32 : BitVec 32 := 125#32
  let v1068 : Index := Scalar.indexCast c125_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1069 : Index := Scalar.indexCast v12
  ![125, v1069.toNat]
def k0_off288 (k0_t2 : Fin k0_t2_loop.trips) : Fin 2 → Nat :=
  let c126_i32 : BitVec 32 := 126#32
  let v1075 : Index := Scalar.indexCast c126_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1076 : Index := Scalar.indexCast v12
  ![126, v1076.toNat]
def k0_off289 (k0_t2 : Fin k0_t2_loop.trips) : Fin 2 → Nat :=
  let c127_i32 : BitVec 32 := 127#32
  let v1082 : Index := Scalar.indexCast c127_i32
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1083 : Index := Scalar.indexCast v12
  ![127, v1083.toNat]
def k0_off290 (k0_t2 : Fin k0_t2_loop.trips) : Fin 2 → Nat :=
  let c15_i32_161 : BitVec 32 := 15#32
  let v1096 : Index := Scalar.indexCast c15_i32_161
  let c0_i32_2 : BitVec 32 := 0#32
  let c1_i32_4 : BitVec 32 := 1#32
  let arg6 : BitVec 32 := Scf.iv c0_i32_2 c1_i32_4 k0_t2
  let c16_i32 : BitVec 32 := 16#32
  let v11 : BitVec 32 := Scalar.muli arg6 c16_i32
  let v12 : BitVec 32 := v11
  let v1097 : Index := Scalar.indexCast v12
  ![15, v1097.toNat]
@[reducible] def k0_t3_loop : Scf.Loop 32 :=
  let c0_i32_6 : BitVec 32 := 0#32
  let c32_i32_7 : BitVec 32 := 32#32
  let v8 : BitVec 32 := Scalar.addi c0_i32_6 c32_i32_7
  let c1_i32_8 : BitVec 32 := 1#32
  ⟨c0_i32_6, v8, c1_i32_8⟩
def k0_mult3 (k0_t3 : Fin k0_t3_loop.trips) : BitVec 32 :=
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  v11
def k0_off291 (k0_t3 : Fin k0_t3_loop.trips) : Fin 2 → Nat :=
  let c0_i32_14 : BitVec 32 := 0#32
  let v13 : Index := Scalar.indexCast c0_i32_14
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v14 : Index := Scalar.indexCast v12
  ![0, v14.toNat]
def k0_off292 (k0_t3 : Fin k0_t3_loop.trips) : Fin 2 → Nat :=
  let c1_i32_15 : BitVec 32 := 1#32
  let v20 : Index := Scalar.indexCast c1_i32_15
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v21 : Index := Scalar.indexCast v12
  ![1, v21.toNat]
def k0_off293 (k0_t3 : Fin k0_t3_loop.trips) : Fin 2 → Nat :=
  let c2_i32_17 : BitVec 32 := 2#32
  let v27 : Index := Scalar.indexCast c2_i32_17
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v28 : Index := Scalar.indexCast v12
  ![2, v28.toNat]
def k0_off294 (k0_t3 : Fin k0_t3_loop.trips) : Fin 2 → Nat :=
  let c3_i32 : BitVec 32 := 3#32
  let v34 : Index := Scalar.indexCast c3_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v35 : Index := Scalar.indexCast v12
  ![3, v35.toNat]
def k0_off295 (k0_t3 : Fin k0_t3_loop.trips) : Fin 2 → Nat :=
  let c4_i32 : BitVec 32 := 4#32
  let v41 : Index := Scalar.indexCast c4_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v42 : Index := Scalar.indexCast v12
  ![4, v42.toNat]
def k0_off296 (k0_t3 : Fin k0_t3_loop.trips) : Fin 2 → Nat :=
  let c5_i32 : BitVec 32 := 5#32
  let v48 : Index := Scalar.indexCast c5_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v49 : Index := Scalar.indexCast v12
  ![5, v49.toNat]
def k0_off297 (k0_t3 : Fin k0_t3_loop.trips) : Fin 2 → Nat :=
  let c6_i32 : BitVec 32 := 6#32
  let v55 : Index := Scalar.indexCast c6_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v56 : Index := Scalar.indexCast v12
  ![6, v56.toNat]
def k0_off298 (k0_t3 : Fin k0_t3_loop.trips) : Fin 2 → Nat :=
  let c7_i32 : BitVec 32 := 7#32
  let v62 : Index := Scalar.indexCast c7_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v63 : Index := Scalar.indexCast v12
  ![7, v63.toNat]
def k0_off299 (k0_t3 : Fin k0_t3_loop.trips) : Fin 2 → Nat :=
  let c0_i32_24 : BitVec 32 := 0#32
  let v76 : Index := Scalar.indexCast c0_i32_24
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v77 : Index := Scalar.indexCast v12
  ![0, v77.toNat]
def k0_off300 (k0_t3 : Fin k0_t3_loop.trips) : Fin 2 → Nat :=
  let c8_i32 : BitVec 32 := 8#32
  let v81 : Index := Scalar.indexCast c8_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v82 : Index := Scalar.indexCast v12
  ![8, v82.toNat]
def k0_off301 (k0_t3 : Fin k0_t3_loop.trips) : Fin 2 → Nat :=
  let c9_i32 : BitVec 32 := 9#32
  let v88 : Index := Scalar.indexCast c9_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v89 : Index := Scalar.indexCast v12
  ![9, v89.toNat]
def k0_off302 (k0_t3 : Fin k0_t3_loop.trips) : Fin 2 → Nat :=
  let c10_i32 : BitVec 32 := 10#32
  let v95 : Index := Scalar.indexCast c10_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v96 : Index := Scalar.indexCast v12
  ![10, v96.toNat]
def k0_off303 (k0_t3 : Fin k0_t3_loop.trips) : Fin 2 → Nat :=
  let c11_i32 : BitVec 32 := 11#32
  let v102 : Index := Scalar.indexCast c11_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v103 : Index := Scalar.indexCast v12
  ![11, v103.toNat]
def k0_off304 (k0_t3 : Fin k0_t3_loop.trips) : Fin 2 → Nat :=
  let c12_i32 : BitVec 32 := 12#32
  let v109 : Index := Scalar.indexCast c12_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v110 : Index := Scalar.indexCast v12
  ![12, v110.toNat]
def k0_off305 (k0_t3 : Fin k0_t3_loop.trips) : Fin 2 → Nat :=
  let c13_i32 : BitVec 32 := 13#32
  let v116 : Index := Scalar.indexCast c13_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v117 : Index := Scalar.indexCast v12
  ![13, v117.toNat]
def k0_off306 (k0_t3 : Fin k0_t3_loop.trips) : Fin 2 → Nat :=
  let c14_i32 : BitVec 32 := 14#32
  let v123 : Index := Scalar.indexCast c14_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v124 : Index := Scalar.indexCast v12
  ![14, v124.toNat]
def k0_off307 (k0_t3 : Fin k0_t3_loop.trips) : Fin 2 → Nat :=
  let c15_i32 : BitVec 32 := 15#32
  let v130 : Index := Scalar.indexCast c15_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v131 : Index := Scalar.indexCast v12
  ![15, v131.toNat]
def k0_off308 (k0_t3 : Fin k0_t3_loop.trips) : Fin 2 → Nat :=
  let c1_i32_33 : BitVec 32 := 1#32
  let v144 : Index := Scalar.indexCast c1_i32_33
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v145 : Index := Scalar.indexCast v12
  ![1, v145.toNat]
def k0_off309 (k0_t3 : Fin k0_t3_loop.trips) : Fin 2 → Nat :=
  let c16_i32_34 : BitVec 32 := 16#32
  let v149 : Index := Scalar.indexCast c16_i32_34
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v150 : Index := Scalar.indexCast v12
  ![16, v150.toNat]
def k0_off310 (k0_t3 : Fin k0_t3_loop.trips) : Fin 2 → Nat :=
  let c17_i32 : BitVec 32 := 17#32
  let v156 : Index := Scalar.indexCast c17_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v157 : Index := Scalar.indexCast v12
  ![17, v157.toNat]
def k0_off311 (k0_t3 : Fin k0_t3_loop.trips) : Fin 2 → Nat :=
  let c18_i32 : BitVec 32 := 18#32
  let v163 : Index := Scalar.indexCast c18_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v164 : Index := Scalar.indexCast v12
  ![18, v164.toNat]
def k0_off312 (k0_t3 : Fin k0_t3_loop.trips) : Fin 2 → Nat :=
  let c19_i32 : BitVec 32 := 19#32
  let v170 : Index := Scalar.indexCast c19_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v171 : Index := Scalar.indexCast v12
  ![19, v171.toNat]
def k0_off313 (k0_t3 : Fin k0_t3_loop.trips) : Fin 2 → Nat :=
  let c20_i32 : BitVec 32 := 20#32
  let v177 : Index := Scalar.indexCast c20_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v178 : Index := Scalar.indexCast v12
  ![20, v178.toNat]
def k0_off314 (k0_t3 : Fin k0_t3_loop.trips) : Fin 2 → Nat :=
  let c21_i32 : BitVec 32 := 21#32
  let v184 : Index := Scalar.indexCast c21_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v185 : Index := Scalar.indexCast v12
  ![21, v185.toNat]
def k0_off315 (k0_t3 : Fin k0_t3_loop.trips) : Fin 2 → Nat :=
  let c22_i32 : BitVec 32 := 22#32
  let v191 : Index := Scalar.indexCast c22_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v192 : Index := Scalar.indexCast v12
  ![22, v192.toNat]
def k0_off316 (k0_t3 : Fin k0_t3_loop.trips) : Fin 2 → Nat :=
  let c23_i32 : BitVec 32 := 23#32
  let v198 : Index := Scalar.indexCast c23_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v199 : Index := Scalar.indexCast v12
  ![23, v199.toNat]
def k0_off317 (k0_t3 : Fin k0_t3_loop.trips) : Fin 2 → Nat :=
  let c2_i32_43 : BitVec 32 := 2#32
  let v212 : Index := Scalar.indexCast c2_i32_43
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v213 : Index := Scalar.indexCast v12
  ![2, v213.toNat]
def k0_off318 (k0_t3 : Fin k0_t3_loop.trips) : Fin 2 → Nat :=
  let c24_i32 : BitVec 32 := 24#32
  let v217 : Index := Scalar.indexCast c24_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v218 : Index := Scalar.indexCast v12
  ![24, v218.toNat]
def k0_off319 (k0_t3 : Fin k0_t3_loop.trips) : Fin 2 → Nat :=
  let c25_i32 : BitVec 32 := 25#32
  let v224 : Index := Scalar.indexCast c25_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v225 : Index := Scalar.indexCast v12
  ![25, v225.toNat]
def k0_off320 (k0_t3 : Fin k0_t3_loop.trips) : Fin 2 → Nat :=
  let c26_i32 : BitVec 32 := 26#32
  let v231 : Index := Scalar.indexCast c26_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v232 : Index := Scalar.indexCast v12
  ![26, v232.toNat]
def k0_off321 (k0_t3 : Fin k0_t3_loop.trips) : Fin 2 → Nat :=
  let c27_i32 : BitVec 32 := 27#32
  let v238 : Index := Scalar.indexCast c27_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v239 : Index := Scalar.indexCast v12
  ![27, v239.toNat]
def k0_off322 (k0_t3 : Fin k0_t3_loop.trips) : Fin 2 → Nat :=
  let c28_i32 : BitVec 32 := 28#32
  let v245 : Index := Scalar.indexCast c28_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v246 : Index := Scalar.indexCast v12
  ![28, v246.toNat]
def k0_off323 (k0_t3 : Fin k0_t3_loop.trips) : Fin 2 → Nat :=
  let c29_i32 : BitVec 32 := 29#32
  let v252 : Index := Scalar.indexCast c29_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v253 : Index := Scalar.indexCast v12
  ![29, v253.toNat]
def k0_off324 (k0_t3 : Fin k0_t3_loop.trips) : Fin 2 → Nat :=
  let c30_i32 : BitVec 32 := 30#32
  let v259 : Index := Scalar.indexCast c30_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v260 : Index := Scalar.indexCast v12
  ![30, v260.toNat]
def k0_off325 (k0_t3 : Fin k0_t3_loop.trips) : Fin 2 → Nat :=
  let c31_i32 : BitVec 32 := 31#32
  let v266 : Index := Scalar.indexCast c31_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v267 : Index := Scalar.indexCast v12
  ![31, v267.toNat]
def k0_off326 (k0_t3 : Fin k0_t3_loop.trips) : Fin 2 → Nat :=
  let c3_i32_52 : BitVec 32 := 3#32
  let v280 : Index := Scalar.indexCast c3_i32_52
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v281 : Index := Scalar.indexCast v12
  ![3, v281.toNat]
def k0_off327 (k0_t3 : Fin k0_t3_loop.trips) : Fin 2 → Nat :=
  let c32_i32_53 : BitVec 32 := 32#32
  let v285 : Index := Scalar.indexCast c32_i32_53
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v286 : Index := Scalar.indexCast v12
  ![32, v286.toNat]
def k0_off328 (k0_t3 : Fin k0_t3_loop.trips) : Fin 2 → Nat :=
  let c33_i32 : BitVec 32 := 33#32
  let v292 : Index := Scalar.indexCast c33_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v293 : Index := Scalar.indexCast v12
  ![33, v293.toNat]
def k0_off329 (k0_t3 : Fin k0_t3_loop.trips) : Fin 2 → Nat :=
  let c34_i32 : BitVec 32 := 34#32
  let v299 : Index := Scalar.indexCast c34_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v300 : Index := Scalar.indexCast v12
  ![34, v300.toNat]
def k0_off330 (k0_t3 : Fin k0_t3_loop.trips) : Fin 2 → Nat :=
  let c35_i32 : BitVec 32 := 35#32
  let v306 : Index := Scalar.indexCast c35_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v307 : Index := Scalar.indexCast v12
  ![35, v307.toNat]
def k0_off331 (k0_t3 : Fin k0_t3_loop.trips) : Fin 2 → Nat :=
  let c36_i32 : BitVec 32 := 36#32
  let v313 : Index := Scalar.indexCast c36_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v314 : Index := Scalar.indexCast v12
  ![36, v314.toNat]
def k0_off332 (k0_t3 : Fin k0_t3_loop.trips) : Fin 2 → Nat :=
  let c37_i32 : BitVec 32 := 37#32
  let v320 : Index := Scalar.indexCast c37_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v321 : Index := Scalar.indexCast v12
  ![37, v321.toNat]
def k0_off333 (k0_t3 : Fin k0_t3_loop.trips) : Fin 2 → Nat :=
  let c38_i32 : BitVec 32 := 38#32
  let v327 : Index := Scalar.indexCast c38_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v328 : Index := Scalar.indexCast v12
  ![38, v328.toNat]
def k0_off334 (k0_t3 : Fin k0_t3_loop.trips) : Fin 2 → Nat :=
  let c39_i32 : BitVec 32 := 39#32
  let v334 : Index := Scalar.indexCast c39_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v335 : Index := Scalar.indexCast v12
  ![39, v335.toNat]
def k0_off335 (k0_t3 : Fin k0_t3_loop.trips) : Fin 2 → Nat :=
  let c4_i32_62 : BitVec 32 := 4#32
  let v348 : Index := Scalar.indexCast c4_i32_62
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v349 : Index := Scalar.indexCast v12
  ![4, v349.toNat]
def k0_off336 (k0_t3 : Fin k0_t3_loop.trips) : Fin 2 → Nat :=
  let c40_i32 : BitVec 32 := 40#32
  let v353 : Index := Scalar.indexCast c40_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v354 : Index := Scalar.indexCast v12
  ![40, v354.toNat]
def k0_off337 (k0_t3 : Fin k0_t3_loop.trips) : Fin 2 → Nat :=
  let c41_i32 : BitVec 32 := 41#32
  let v360 : Index := Scalar.indexCast c41_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v361 : Index := Scalar.indexCast v12
  ![41, v361.toNat]
def k0_off338 (k0_t3 : Fin k0_t3_loop.trips) : Fin 2 → Nat :=
  let c42_i32 : BitVec 32 := 42#32
  let v367 : Index := Scalar.indexCast c42_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v368 : Index := Scalar.indexCast v12
  ![42, v368.toNat]
def k0_off339 (k0_t3 : Fin k0_t3_loop.trips) : Fin 2 → Nat :=
  let c43_i32 : BitVec 32 := 43#32
  let v374 : Index := Scalar.indexCast c43_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v375 : Index := Scalar.indexCast v12
  ![43, v375.toNat]
def k0_off340 (k0_t3 : Fin k0_t3_loop.trips) : Fin 2 → Nat :=
  let c44_i32 : BitVec 32 := 44#32
  let v381 : Index := Scalar.indexCast c44_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v382 : Index := Scalar.indexCast v12
  ![44, v382.toNat]
def k0_off341 (k0_t3 : Fin k0_t3_loop.trips) : Fin 2 → Nat :=
  let c45_i32 : BitVec 32 := 45#32
  let v388 : Index := Scalar.indexCast c45_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v389 : Index := Scalar.indexCast v12
  ![45, v389.toNat]
def k0_off342 (k0_t3 : Fin k0_t3_loop.trips) : Fin 2 → Nat :=
  let c46_i32 : BitVec 32 := 46#32
  let v395 : Index := Scalar.indexCast c46_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v396 : Index := Scalar.indexCast v12
  ![46, v396.toNat]
def k0_off343 (k0_t3 : Fin k0_t3_loop.trips) : Fin 2 → Nat :=
  let c47_i32 : BitVec 32 := 47#32
  let v402 : Index := Scalar.indexCast c47_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v403 : Index := Scalar.indexCast v12
  ![47, v403.toNat]
def k0_off344 (k0_t3 : Fin k0_t3_loop.trips) : Fin 2 → Nat :=
  let c5_i32_71 : BitVec 32 := 5#32
  let v416 : Index := Scalar.indexCast c5_i32_71
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v417 : Index := Scalar.indexCast v12
  ![5, v417.toNat]
def k0_off345 (k0_t3 : Fin k0_t3_loop.trips) : Fin 2 → Nat :=
  let c48_i32 : BitVec 32 := 48#32
  let v421 : Index := Scalar.indexCast c48_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v422 : Index := Scalar.indexCast v12
  ![48, v422.toNat]
def k0_off346 (k0_t3 : Fin k0_t3_loop.trips) : Fin 2 → Nat :=
  let c49_i32 : BitVec 32 := 49#32
  let v428 : Index := Scalar.indexCast c49_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v429 : Index := Scalar.indexCast v12
  ![49, v429.toNat]
def k0_off347 (k0_t3 : Fin k0_t3_loop.trips) : Fin 2 → Nat :=
  let c50_i32 : BitVec 32 := 50#32
  let v435 : Index := Scalar.indexCast c50_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v436 : Index := Scalar.indexCast v12
  ![50, v436.toNat]
def k0_off348 (k0_t3 : Fin k0_t3_loop.trips) : Fin 2 → Nat :=
  let c51_i32 : BitVec 32 := 51#32
  let v442 : Index := Scalar.indexCast c51_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v443 : Index := Scalar.indexCast v12
  ![51, v443.toNat]
def k0_off349 (k0_t3 : Fin k0_t3_loop.trips) : Fin 2 → Nat :=
  let c52_i32 : BitVec 32 := 52#32
  let v449 : Index := Scalar.indexCast c52_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v450 : Index := Scalar.indexCast v12
  ![52, v450.toNat]
def k0_off350 (k0_t3 : Fin k0_t3_loop.trips) : Fin 2 → Nat :=
  let c53_i32 : BitVec 32 := 53#32
  let v456 : Index := Scalar.indexCast c53_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v457 : Index := Scalar.indexCast v12
  ![53, v457.toNat]
def k0_off351 (k0_t3 : Fin k0_t3_loop.trips) : Fin 2 → Nat :=
  let c54_i32 : BitVec 32 := 54#32
  let v463 : Index := Scalar.indexCast c54_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v464 : Index := Scalar.indexCast v12
  ![54, v464.toNat]
def k0_off352 (k0_t3 : Fin k0_t3_loop.trips) : Fin 2 → Nat :=
  let c55_i32 : BitVec 32 := 55#32
  let v470 : Index := Scalar.indexCast c55_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v471 : Index := Scalar.indexCast v12
  ![55, v471.toNat]
def k0_off353 (k0_t3 : Fin k0_t3_loop.trips) : Fin 2 → Nat :=
  let c6_i32_80 : BitVec 32 := 6#32
  let v484 : Index := Scalar.indexCast c6_i32_80
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v485 : Index := Scalar.indexCast v12
  ![6, v485.toNat]
def k0_off354 (k0_t3 : Fin k0_t3_loop.trips) : Fin 2 → Nat :=
  let c56_i32 : BitVec 32 := 56#32
  let v489 : Index := Scalar.indexCast c56_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v490 : Index := Scalar.indexCast v12
  ![56, v490.toNat]
def k0_off355 (k0_t3 : Fin k0_t3_loop.trips) : Fin 2 → Nat :=
  let c57_i32 : BitVec 32 := 57#32
  let v496 : Index := Scalar.indexCast c57_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v497 : Index := Scalar.indexCast v12
  ![57, v497.toNat]
def k0_off356 (k0_t3 : Fin k0_t3_loop.trips) : Fin 2 → Nat :=
  let c58_i32 : BitVec 32 := 58#32
  let v503 : Index := Scalar.indexCast c58_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v504 : Index := Scalar.indexCast v12
  ![58, v504.toNat]
def k0_off357 (k0_t3 : Fin k0_t3_loop.trips) : Fin 2 → Nat :=
  let c59_i32 : BitVec 32 := 59#32
  let v510 : Index := Scalar.indexCast c59_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v511 : Index := Scalar.indexCast v12
  ![59, v511.toNat]
def k0_off358 (k0_t3 : Fin k0_t3_loop.trips) : Fin 2 → Nat :=
  let c60_i32 : BitVec 32 := 60#32
  let v517 : Index := Scalar.indexCast c60_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v518 : Index := Scalar.indexCast v12
  ![60, v518.toNat]
def k0_off359 (k0_t3 : Fin k0_t3_loop.trips) : Fin 2 → Nat :=
  let c61_i32 : BitVec 32 := 61#32
  let v524 : Index := Scalar.indexCast c61_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v525 : Index := Scalar.indexCast v12
  ![61, v525.toNat]
def k0_off360 (k0_t3 : Fin k0_t3_loop.trips) : Fin 2 → Nat :=
  let c62_i32 : BitVec 32 := 62#32
  let v531 : Index := Scalar.indexCast c62_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v532 : Index := Scalar.indexCast v12
  ![62, v532.toNat]
def k0_off361 (k0_t3 : Fin k0_t3_loop.trips) : Fin 2 → Nat :=
  let c63_i32 : BitVec 32 := 63#32
  let v538 : Index := Scalar.indexCast c63_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v539 : Index := Scalar.indexCast v12
  ![63, v539.toNat]
def k0_off362 (k0_t3 : Fin k0_t3_loop.trips) : Fin 2 → Nat :=
  let c7_i32_89 : BitVec 32 := 7#32
  let v552 : Index := Scalar.indexCast c7_i32_89
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v553 : Index := Scalar.indexCast v12
  ![7, v553.toNat]
def k0_off363 (k0_t3 : Fin k0_t3_loop.trips) : Fin 2 → Nat :=
  let c64_i32 : BitVec 32 := 64#32
  let v557 : Index := Scalar.indexCast c64_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v558 : Index := Scalar.indexCast v12
  ![64, v558.toNat]
def k0_off364 (k0_t3 : Fin k0_t3_loop.trips) : Fin 2 → Nat :=
  let c65_i32 : BitVec 32 := 65#32
  let v564 : Index := Scalar.indexCast c65_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v565 : Index := Scalar.indexCast v12
  ![65, v565.toNat]
def k0_off365 (k0_t3 : Fin k0_t3_loop.trips) : Fin 2 → Nat :=
  let c66_i32 : BitVec 32 := 66#32
  let v571 : Index := Scalar.indexCast c66_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v572 : Index := Scalar.indexCast v12
  ![66, v572.toNat]
def k0_off366 (k0_t3 : Fin k0_t3_loop.trips) : Fin 2 → Nat :=
  let c67_i32 : BitVec 32 := 67#32
  let v578 : Index := Scalar.indexCast c67_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v579 : Index := Scalar.indexCast v12
  ![67, v579.toNat]
def k0_off367 (k0_t3 : Fin k0_t3_loop.trips) : Fin 2 → Nat :=
  let c68_i32 : BitVec 32 := 68#32
  let v585 : Index := Scalar.indexCast c68_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v586 : Index := Scalar.indexCast v12
  ![68, v586.toNat]
def k0_off368 (k0_t3 : Fin k0_t3_loop.trips) : Fin 2 → Nat :=
  let c69_i32 : BitVec 32 := 69#32
  let v592 : Index := Scalar.indexCast c69_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v593 : Index := Scalar.indexCast v12
  ![69, v593.toNat]
def k0_off369 (k0_t3 : Fin k0_t3_loop.trips) : Fin 2 → Nat :=
  let c70_i32 : BitVec 32 := 70#32
  let v599 : Index := Scalar.indexCast c70_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v600 : Index := Scalar.indexCast v12
  ![70, v600.toNat]
def k0_off370 (k0_t3 : Fin k0_t3_loop.trips) : Fin 2 → Nat :=
  let c71_i32 : BitVec 32 := 71#32
  let v606 : Index := Scalar.indexCast c71_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v607 : Index := Scalar.indexCast v12
  ![71, v607.toNat]
def k0_off371 (k0_t3 : Fin k0_t3_loop.trips) : Fin 2 → Nat :=
  let c8_i32_98 : BitVec 32 := 8#32
  let v620 : Index := Scalar.indexCast c8_i32_98
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v621 : Index := Scalar.indexCast v12
  ![8, v621.toNat]
def k0_off372 (k0_t3 : Fin k0_t3_loop.trips) : Fin 2 → Nat :=
  let c72_i32 : BitVec 32 := 72#32
  let v625 : Index := Scalar.indexCast c72_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v626 : Index := Scalar.indexCast v12
  ![72, v626.toNat]
def k0_off373 (k0_t3 : Fin k0_t3_loop.trips) : Fin 2 → Nat :=
  let c73_i32 : BitVec 32 := 73#32
  let v632 : Index := Scalar.indexCast c73_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v633 : Index := Scalar.indexCast v12
  ![73, v633.toNat]
def k0_off374 (k0_t3 : Fin k0_t3_loop.trips) : Fin 2 → Nat :=
  let c74_i32 : BitVec 32 := 74#32
  let v639 : Index := Scalar.indexCast c74_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v640 : Index := Scalar.indexCast v12
  ![74, v640.toNat]
def k0_off375 (k0_t3 : Fin k0_t3_loop.trips) : Fin 2 → Nat :=
  let c75_i32 : BitVec 32 := 75#32
  let v646 : Index := Scalar.indexCast c75_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v647 : Index := Scalar.indexCast v12
  ![75, v647.toNat]
def k0_off376 (k0_t3 : Fin k0_t3_loop.trips) : Fin 2 → Nat :=
  let c76_i32 : BitVec 32 := 76#32
  let v653 : Index := Scalar.indexCast c76_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v654 : Index := Scalar.indexCast v12
  ![76, v654.toNat]
def k0_off377 (k0_t3 : Fin k0_t3_loop.trips) : Fin 2 → Nat :=
  let c77_i32 : BitVec 32 := 77#32
  let v660 : Index := Scalar.indexCast c77_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v661 : Index := Scalar.indexCast v12
  ![77, v661.toNat]
def k0_off378 (k0_t3 : Fin k0_t3_loop.trips) : Fin 2 → Nat :=
  let c78_i32 : BitVec 32 := 78#32
  let v667 : Index := Scalar.indexCast c78_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v668 : Index := Scalar.indexCast v12
  ![78, v668.toNat]
def k0_off379 (k0_t3 : Fin k0_t3_loop.trips) : Fin 2 → Nat :=
  let c79_i32 : BitVec 32 := 79#32
  let v674 : Index := Scalar.indexCast c79_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v675 : Index := Scalar.indexCast v12
  ![79, v675.toNat]
def k0_off380 (k0_t3 : Fin k0_t3_loop.trips) : Fin 2 → Nat :=
  let c9_i32_107 : BitVec 32 := 9#32
  let v688 : Index := Scalar.indexCast c9_i32_107
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v689 : Index := Scalar.indexCast v12
  ![9, v689.toNat]
def k0_off381 (k0_t3 : Fin k0_t3_loop.trips) : Fin 2 → Nat :=
  let c80_i32 : BitVec 32 := 80#32
  let v693 : Index := Scalar.indexCast c80_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v694 : Index := Scalar.indexCast v12
  ![80, v694.toNat]
def k0_off382 (k0_t3 : Fin k0_t3_loop.trips) : Fin 2 → Nat :=
  let c81_i32 : BitVec 32 := 81#32
  let v700 : Index := Scalar.indexCast c81_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v701 : Index := Scalar.indexCast v12
  ![81, v701.toNat]
def k0_off383 (k0_t3 : Fin k0_t3_loop.trips) : Fin 2 → Nat :=
  let c82_i32 : BitVec 32 := 82#32
  let v707 : Index := Scalar.indexCast c82_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v708 : Index := Scalar.indexCast v12
  ![82, v708.toNat]
def k0_off384 (k0_t3 : Fin k0_t3_loop.trips) : Fin 2 → Nat :=
  let c83_i32 : BitVec 32 := 83#32
  let v714 : Index := Scalar.indexCast c83_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v715 : Index := Scalar.indexCast v12
  ![83, v715.toNat]
def k0_off385 (k0_t3 : Fin k0_t3_loop.trips) : Fin 2 → Nat :=
  let c84_i32 : BitVec 32 := 84#32
  let v721 : Index := Scalar.indexCast c84_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v722 : Index := Scalar.indexCast v12
  ![84, v722.toNat]
def k0_off386 (k0_t3 : Fin k0_t3_loop.trips) : Fin 2 → Nat :=
  let c85_i32 : BitVec 32 := 85#32
  let v728 : Index := Scalar.indexCast c85_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v729 : Index := Scalar.indexCast v12
  ![85, v729.toNat]
def k0_off387 (k0_t3 : Fin k0_t3_loop.trips) : Fin 2 → Nat :=
  let c86_i32 : BitVec 32 := 86#32
  let v735 : Index := Scalar.indexCast c86_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v736 : Index := Scalar.indexCast v12
  ![86, v736.toNat]
def k0_off388 (k0_t3 : Fin k0_t3_loop.trips) : Fin 2 → Nat :=
  let c87_i32 : BitVec 32 := 87#32
  let v742 : Index := Scalar.indexCast c87_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v743 : Index := Scalar.indexCast v12
  ![87, v743.toNat]
def k0_off389 (k0_t3 : Fin k0_t3_loop.trips) : Fin 2 → Nat :=
  let c10_i32_116 : BitVec 32 := 10#32
  let v756 : Index := Scalar.indexCast c10_i32_116
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v757 : Index := Scalar.indexCast v12
  ![10, v757.toNat]
def k0_off390 (k0_t3 : Fin k0_t3_loop.trips) : Fin 2 → Nat :=
  let c88_i32 : BitVec 32 := 88#32
  let v761 : Index := Scalar.indexCast c88_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v762 : Index := Scalar.indexCast v12
  ![88, v762.toNat]
def k0_off391 (k0_t3 : Fin k0_t3_loop.trips) : Fin 2 → Nat :=
  let c89_i32 : BitVec 32 := 89#32
  let v768 : Index := Scalar.indexCast c89_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v769 : Index := Scalar.indexCast v12
  ![89, v769.toNat]
def k0_off392 (k0_t3 : Fin k0_t3_loop.trips) : Fin 2 → Nat :=
  let c90_i32 : BitVec 32 := 90#32
  let v775 : Index := Scalar.indexCast c90_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v776 : Index := Scalar.indexCast v12
  ![90, v776.toNat]
def k0_off393 (k0_t3 : Fin k0_t3_loop.trips) : Fin 2 → Nat :=
  let c91_i32 : BitVec 32 := 91#32
  let v782 : Index := Scalar.indexCast c91_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v783 : Index := Scalar.indexCast v12
  ![91, v783.toNat]
def k0_off394 (k0_t3 : Fin k0_t3_loop.trips) : Fin 2 → Nat :=
  let c92_i32 : BitVec 32 := 92#32
  let v789 : Index := Scalar.indexCast c92_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v790 : Index := Scalar.indexCast v12
  ![92, v790.toNat]
def k0_off395 (k0_t3 : Fin k0_t3_loop.trips) : Fin 2 → Nat :=
  let c93_i32 : BitVec 32 := 93#32
  let v796 : Index := Scalar.indexCast c93_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v797 : Index := Scalar.indexCast v12
  ![93, v797.toNat]
def k0_off396 (k0_t3 : Fin k0_t3_loop.trips) : Fin 2 → Nat :=
  let c94_i32 : BitVec 32 := 94#32
  let v803 : Index := Scalar.indexCast c94_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v804 : Index := Scalar.indexCast v12
  ![94, v804.toNat]
def k0_off397 (k0_t3 : Fin k0_t3_loop.trips) : Fin 2 → Nat :=
  let c95_i32 : BitVec 32 := 95#32
  let v810 : Index := Scalar.indexCast c95_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v811 : Index := Scalar.indexCast v12
  ![95, v811.toNat]
def k0_off398 (k0_t3 : Fin k0_t3_loop.trips) : Fin 2 → Nat :=
  let c11_i32_125 : BitVec 32 := 11#32
  let v824 : Index := Scalar.indexCast c11_i32_125
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v825 : Index := Scalar.indexCast v12
  ![11, v825.toNat]
def k0_off399 (k0_t3 : Fin k0_t3_loop.trips) : Fin 2 → Nat :=
  let c96_i32 : BitVec 32 := 96#32
  let v829 : Index := Scalar.indexCast c96_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v830 : Index := Scalar.indexCast v12
  ![96, v830.toNat]
def k0_off400 (k0_t3 : Fin k0_t3_loop.trips) : Fin 2 → Nat :=
  let c97_i32 : BitVec 32 := 97#32
  let v836 : Index := Scalar.indexCast c97_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v837 : Index := Scalar.indexCast v12
  ![97, v837.toNat]
def k0_off401 (k0_t3 : Fin k0_t3_loop.trips) : Fin 2 → Nat :=
  let c98_i32 : BitVec 32 := 98#32
  let v843 : Index := Scalar.indexCast c98_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v844 : Index := Scalar.indexCast v12
  ![98, v844.toNat]
def k0_off402 (k0_t3 : Fin k0_t3_loop.trips) : Fin 2 → Nat :=
  let c99_i32 : BitVec 32 := 99#32
  let v850 : Index := Scalar.indexCast c99_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v851 : Index := Scalar.indexCast v12
  ![99, v851.toNat]
def k0_off403 (k0_t3 : Fin k0_t3_loop.trips) : Fin 2 → Nat :=
  let c100_i32 : BitVec 32 := 100#32
  let v857 : Index := Scalar.indexCast c100_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v858 : Index := Scalar.indexCast v12
  ![100, v858.toNat]
def k0_off404 (k0_t3 : Fin k0_t3_loop.trips) : Fin 2 → Nat :=
  let c101_i32 : BitVec 32 := 101#32
  let v864 : Index := Scalar.indexCast c101_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v865 : Index := Scalar.indexCast v12
  ![101, v865.toNat]
def k0_off405 (k0_t3 : Fin k0_t3_loop.trips) : Fin 2 → Nat :=
  let c102_i32 : BitVec 32 := 102#32
  let v871 : Index := Scalar.indexCast c102_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v872 : Index := Scalar.indexCast v12
  ![102, v872.toNat]
def k0_off406 (k0_t3 : Fin k0_t3_loop.trips) : Fin 2 → Nat :=
  let c103_i32 : BitVec 32 := 103#32
  let v878 : Index := Scalar.indexCast c103_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v879 : Index := Scalar.indexCast v12
  ![103, v879.toNat]
def k0_off407 (k0_t3 : Fin k0_t3_loop.trips) : Fin 2 → Nat :=
  let c12_i32_134 : BitVec 32 := 12#32
  let v892 : Index := Scalar.indexCast c12_i32_134
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v893 : Index := Scalar.indexCast v12
  ![12, v893.toNat]
def k0_off408 (k0_t3 : Fin k0_t3_loop.trips) : Fin 2 → Nat :=
  let c104_i32 : BitVec 32 := 104#32
  let v897 : Index := Scalar.indexCast c104_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v898 : Index := Scalar.indexCast v12
  ![104, v898.toNat]
def k0_off409 (k0_t3 : Fin k0_t3_loop.trips) : Fin 2 → Nat :=
  let c105_i32 : BitVec 32 := 105#32
  let v904 : Index := Scalar.indexCast c105_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v905 : Index := Scalar.indexCast v12
  ![105, v905.toNat]
def k0_off410 (k0_t3 : Fin k0_t3_loop.trips) : Fin 2 → Nat :=
  let c106_i32 : BitVec 32 := 106#32
  let v911 : Index := Scalar.indexCast c106_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v912 : Index := Scalar.indexCast v12
  ![106, v912.toNat]
def k0_off411 (k0_t3 : Fin k0_t3_loop.trips) : Fin 2 → Nat :=
  let c107_i32 : BitVec 32 := 107#32
  let v918 : Index := Scalar.indexCast c107_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v919 : Index := Scalar.indexCast v12
  ![107, v919.toNat]
def k0_off412 (k0_t3 : Fin k0_t3_loop.trips) : Fin 2 → Nat :=
  let c108_i32 : BitVec 32 := 108#32
  let v925 : Index := Scalar.indexCast c108_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v926 : Index := Scalar.indexCast v12
  ![108, v926.toNat]
def k0_off413 (k0_t3 : Fin k0_t3_loop.trips) : Fin 2 → Nat :=
  let c109_i32 : BitVec 32 := 109#32
  let v932 : Index := Scalar.indexCast c109_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v933 : Index := Scalar.indexCast v12
  ![109, v933.toNat]
def k0_off414 (k0_t3 : Fin k0_t3_loop.trips) : Fin 2 → Nat :=
  let c110_i32 : BitVec 32 := 110#32
  let v939 : Index := Scalar.indexCast c110_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v940 : Index := Scalar.indexCast v12
  ![110, v940.toNat]
def k0_off415 (k0_t3 : Fin k0_t3_loop.trips) : Fin 2 → Nat :=
  let c111_i32 : BitVec 32 := 111#32
  let v946 : Index := Scalar.indexCast c111_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v947 : Index := Scalar.indexCast v12
  ![111, v947.toNat]
def k0_off416 (k0_t3 : Fin k0_t3_loop.trips) : Fin 2 → Nat :=
  let c13_i32_143 : BitVec 32 := 13#32
  let v960 : Index := Scalar.indexCast c13_i32_143
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v961 : Index := Scalar.indexCast v12
  ![13, v961.toNat]
def k0_off417 (k0_t3 : Fin k0_t3_loop.trips) : Fin 2 → Nat :=
  let c112_i32 : BitVec 32 := 112#32
  let v965 : Index := Scalar.indexCast c112_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v966 : Index := Scalar.indexCast v12
  ![112, v966.toNat]
def k0_off418 (k0_t3 : Fin k0_t3_loop.trips) : Fin 2 → Nat :=
  let c113_i32 : BitVec 32 := 113#32
  let v972 : Index := Scalar.indexCast c113_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v973 : Index := Scalar.indexCast v12
  ![113, v973.toNat]
def k0_off419 (k0_t3 : Fin k0_t3_loop.trips) : Fin 2 → Nat :=
  let c114_i32 : BitVec 32 := 114#32
  let v979 : Index := Scalar.indexCast c114_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v980 : Index := Scalar.indexCast v12
  ![114, v980.toNat]
def k0_off420 (k0_t3 : Fin k0_t3_loop.trips) : Fin 2 → Nat :=
  let c115_i32 : BitVec 32 := 115#32
  let v986 : Index := Scalar.indexCast c115_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v987 : Index := Scalar.indexCast v12
  ![115, v987.toNat]
def k0_off421 (k0_t3 : Fin k0_t3_loop.trips) : Fin 2 → Nat :=
  let c116_i32 : BitVec 32 := 116#32
  let v993 : Index := Scalar.indexCast c116_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v994 : Index := Scalar.indexCast v12
  ![116, v994.toNat]
def k0_off422 (k0_t3 : Fin k0_t3_loop.trips) : Fin 2 → Nat :=
  let c117_i32 : BitVec 32 := 117#32
  let v1000 : Index := Scalar.indexCast c117_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1001 : Index := Scalar.indexCast v12
  ![117, v1001.toNat]
def k0_off423 (k0_t3 : Fin k0_t3_loop.trips) : Fin 2 → Nat :=
  let c118_i32 : BitVec 32 := 118#32
  let v1007 : Index := Scalar.indexCast c118_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1008 : Index := Scalar.indexCast v12
  ![118, v1008.toNat]
def k0_off424 (k0_t3 : Fin k0_t3_loop.trips) : Fin 2 → Nat :=
  let c119_i32 : BitVec 32 := 119#32
  let v1014 : Index := Scalar.indexCast c119_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1015 : Index := Scalar.indexCast v12
  ![119, v1015.toNat]
def k0_off425 (k0_t3 : Fin k0_t3_loop.trips) : Fin 2 → Nat :=
  let c14_i32_152 : BitVec 32 := 14#32
  let v1028 : Index := Scalar.indexCast c14_i32_152
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1029 : Index := Scalar.indexCast v12
  ![14, v1029.toNat]
def k0_off426 (k0_t3 : Fin k0_t3_loop.trips) : Fin 2 → Nat :=
  let c120_i32 : BitVec 32 := 120#32
  let v1033 : Index := Scalar.indexCast c120_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1034 : Index := Scalar.indexCast v12
  ![120, v1034.toNat]
def k0_off427 (k0_t3 : Fin k0_t3_loop.trips) : Fin 2 → Nat :=
  let c121_i32 : BitVec 32 := 121#32
  let v1040 : Index := Scalar.indexCast c121_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1041 : Index := Scalar.indexCast v12
  ![121, v1041.toNat]
def k0_off428 (k0_t3 : Fin k0_t3_loop.trips) : Fin 2 → Nat :=
  let c122_i32 : BitVec 32 := 122#32
  let v1047 : Index := Scalar.indexCast c122_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1048 : Index := Scalar.indexCast v12
  ![122, v1048.toNat]
def k0_off429 (k0_t3 : Fin k0_t3_loop.trips) : Fin 2 → Nat :=
  let c123_i32 : BitVec 32 := 123#32
  let v1054 : Index := Scalar.indexCast c123_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1055 : Index := Scalar.indexCast v12
  ![123, v1055.toNat]
def k0_off430 (k0_t3 : Fin k0_t3_loop.trips) : Fin 2 → Nat :=
  let c124_i32 : BitVec 32 := 124#32
  let v1061 : Index := Scalar.indexCast c124_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1062 : Index := Scalar.indexCast v12
  ![124, v1062.toNat]
def k0_off431 (k0_t3 : Fin k0_t3_loop.trips) : Fin 2 → Nat :=
  let c125_i32 : BitVec 32 := 125#32
  let v1068 : Index := Scalar.indexCast c125_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1069 : Index := Scalar.indexCast v12
  ![125, v1069.toNat]
def k0_off432 (k0_t3 : Fin k0_t3_loop.trips) : Fin 2 → Nat :=
  let c126_i32 : BitVec 32 := 126#32
  let v1075 : Index := Scalar.indexCast c126_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1076 : Index := Scalar.indexCast v12
  ![126, v1076.toNat]
def k0_off433 (k0_t3 : Fin k0_t3_loop.trips) : Fin 2 → Nat :=
  let c127_i32 : BitVec 32 := 127#32
  let v1082 : Index := Scalar.indexCast c127_i32
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1083 : Index := Scalar.indexCast v12
  ![127, v1083.toNat]
def k0_off434 (k0_t3 : Fin k0_t3_loop.trips) : Fin 2 → Nat :=
  let c15_i32_161 : BitVec 32 := 15#32
  let v1096 : Index := Scalar.indexCast c15_i32_161
  let c0_i32_6 : BitVec 32 := 0#32
  let c1_i32_8 : BitVec 32 := 1#32
  let arg6 : BitVec 32 := Scf.iv c0_i32_6 c1_i32_8 k0_t3
  let c16_i32 : BitVec 32 := 16#32
  let v11 : BitVec 32 := Scalar.muli arg6 c16_i32
  let v12 : BitVec 32 := v11
  let v1097 : Index := Scalar.indexCast v12
  ![15, v1097.toNat]
@[reducible] def k0_t4_loop : Scf.Loop 32 :=
  let c0_i32_10 : BitVec 32 := 0#32
  let c32_i32_11 : BitVec 32 := 32#32
  let v10 : BitVec 32 := Scalar.addi c0_i32_10 c32_i32_11
  let c1_i32_12 : BitVec 32 := 1#32
  ⟨c0_i32_10, v10, c1_i32_12⟩
def k0_mult4 (k0_t4 : Fin k0_t4_loop.trips) : BitVec 32 :=
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  v11
def k0_off435 (k0_t4 : Fin k0_t4_loop.trips) : Fin 2 → Nat :=
  let c0_i32_14 : BitVec 32 := 0#32
  let v13 : Index := Scalar.indexCast c0_i32_14
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v14 : Index := Scalar.indexCast v12
  ![0, v14.toNat]
def k0_off436 (k0_t4 : Fin k0_t4_loop.trips) : Fin 2 → Nat :=
  let c1_i32_15 : BitVec 32 := 1#32
  let v20 : Index := Scalar.indexCast c1_i32_15
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v21 : Index := Scalar.indexCast v12
  ![1, v21.toNat]
def k0_off437 (k0_t4 : Fin k0_t4_loop.trips) : Fin 2 → Nat :=
  let c2_i32_17 : BitVec 32 := 2#32
  let v27 : Index := Scalar.indexCast c2_i32_17
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v28 : Index := Scalar.indexCast v12
  ![2, v28.toNat]
def k0_off438 (k0_t4 : Fin k0_t4_loop.trips) : Fin 2 → Nat :=
  let c3_i32 : BitVec 32 := 3#32
  let v34 : Index := Scalar.indexCast c3_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v35 : Index := Scalar.indexCast v12
  ![3, v35.toNat]
def k0_off439 (k0_t4 : Fin k0_t4_loop.trips) : Fin 2 → Nat :=
  let c4_i32 : BitVec 32 := 4#32
  let v41 : Index := Scalar.indexCast c4_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v42 : Index := Scalar.indexCast v12
  ![4, v42.toNat]
def k0_off440 (k0_t4 : Fin k0_t4_loop.trips) : Fin 2 → Nat :=
  let c5_i32 : BitVec 32 := 5#32
  let v48 : Index := Scalar.indexCast c5_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v49 : Index := Scalar.indexCast v12
  ![5, v49.toNat]
def k0_off441 (k0_t4 : Fin k0_t4_loop.trips) : Fin 2 → Nat :=
  let c6_i32 : BitVec 32 := 6#32
  let v55 : Index := Scalar.indexCast c6_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v56 : Index := Scalar.indexCast v12
  ![6, v56.toNat]
def k0_off442 (k0_t4 : Fin k0_t4_loop.trips) : Fin 2 → Nat :=
  let c7_i32 : BitVec 32 := 7#32
  let v62 : Index := Scalar.indexCast c7_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v63 : Index := Scalar.indexCast v12
  ![7, v63.toNat]
def k0_off443 (k0_t4 : Fin k0_t4_loop.trips) : Fin 2 → Nat :=
  let c0_i32_24 : BitVec 32 := 0#32
  let v76 : Index := Scalar.indexCast c0_i32_24
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v77 : Index := Scalar.indexCast v12
  ![0, v77.toNat]
def k0_off444 (k0_t4 : Fin k0_t4_loop.trips) : Fin 2 → Nat :=
  let c8_i32 : BitVec 32 := 8#32
  let v81 : Index := Scalar.indexCast c8_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v82 : Index := Scalar.indexCast v12
  ![8, v82.toNat]
def k0_off445 (k0_t4 : Fin k0_t4_loop.trips) : Fin 2 → Nat :=
  let c9_i32 : BitVec 32 := 9#32
  let v88 : Index := Scalar.indexCast c9_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v89 : Index := Scalar.indexCast v12
  ![9, v89.toNat]
def k0_off446 (k0_t4 : Fin k0_t4_loop.trips) : Fin 2 → Nat :=
  let c10_i32 : BitVec 32 := 10#32
  let v95 : Index := Scalar.indexCast c10_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v96 : Index := Scalar.indexCast v12
  ![10, v96.toNat]
def k0_off447 (k0_t4 : Fin k0_t4_loop.trips) : Fin 2 → Nat :=
  let c11_i32 : BitVec 32 := 11#32
  let v102 : Index := Scalar.indexCast c11_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v103 : Index := Scalar.indexCast v12
  ![11, v103.toNat]
def k0_off448 (k0_t4 : Fin k0_t4_loop.trips) : Fin 2 → Nat :=
  let c12_i32 : BitVec 32 := 12#32
  let v109 : Index := Scalar.indexCast c12_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v110 : Index := Scalar.indexCast v12
  ![12, v110.toNat]
def k0_off449 (k0_t4 : Fin k0_t4_loop.trips) : Fin 2 → Nat :=
  let c13_i32 : BitVec 32 := 13#32
  let v116 : Index := Scalar.indexCast c13_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v117 : Index := Scalar.indexCast v12
  ![13, v117.toNat]
def k0_off450 (k0_t4 : Fin k0_t4_loop.trips) : Fin 2 → Nat :=
  let c14_i32 : BitVec 32 := 14#32
  let v123 : Index := Scalar.indexCast c14_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v124 : Index := Scalar.indexCast v12
  ![14, v124.toNat]
def k0_off451 (k0_t4 : Fin k0_t4_loop.trips) : Fin 2 → Nat :=
  let c15_i32 : BitVec 32 := 15#32
  let v130 : Index := Scalar.indexCast c15_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v131 : Index := Scalar.indexCast v12
  ![15, v131.toNat]
def k0_off452 (k0_t4 : Fin k0_t4_loop.trips) : Fin 2 → Nat :=
  let c1_i32_33 : BitVec 32 := 1#32
  let v144 : Index := Scalar.indexCast c1_i32_33
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v145 : Index := Scalar.indexCast v12
  ![1, v145.toNat]
def k0_off453 (k0_t4 : Fin k0_t4_loop.trips) : Fin 2 → Nat :=
  let c16_i32_34 : BitVec 32 := 16#32
  let v149 : Index := Scalar.indexCast c16_i32_34
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v150 : Index := Scalar.indexCast v12
  ![16, v150.toNat]
def k0_off454 (k0_t4 : Fin k0_t4_loop.trips) : Fin 2 → Nat :=
  let c17_i32 : BitVec 32 := 17#32
  let v156 : Index := Scalar.indexCast c17_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v157 : Index := Scalar.indexCast v12
  ![17, v157.toNat]
def k0_off455 (k0_t4 : Fin k0_t4_loop.trips) : Fin 2 → Nat :=
  let c18_i32 : BitVec 32 := 18#32
  let v163 : Index := Scalar.indexCast c18_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v164 : Index := Scalar.indexCast v12
  ![18, v164.toNat]
def k0_off456 (k0_t4 : Fin k0_t4_loop.trips) : Fin 2 → Nat :=
  let c19_i32 : BitVec 32 := 19#32
  let v170 : Index := Scalar.indexCast c19_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v171 : Index := Scalar.indexCast v12
  ![19, v171.toNat]
def k0_off457 (k0_t4 : Fin k0_t4_loop.trips) : Fin 2 → Nat :=
  let c20_i32 : BitVec 32 := 20#32
  let v177 : Index := Scalar.indexCast c20_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v178 : Index := Scalar.indexCast v12
  ![20, v178.toNat]
def k0_off458 (k0_t4 : Fin k0_t4_loop.trips) : Fin 2 → Nat :=
  let c21_i32 : BitVec 32 := 21#32
  let v184 : Index := Scalar.indexCast c21_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v185 : Index := Scalar.indexCast v12
  ![21, v185.toNat]
def k0_off459 (k0_t4 : Fin k0_t4_loop.trips) : Fin 2 → Nat :=
  let c22_i32 : BitVec 32 := 22#32
  let v191 : Index := Scalar.indexCast c22_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v192 : Index := Scalar.indexCast v12
  ![22, v192.toNat]
def k0_off460 (k0_t4 : Fin k0_t4_loop.trips) : Fin 2 → Nat :=
  let c23_i32 : BitVec 32 := 23#32
  let v198 : Index := Scalar.indexCast c23_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v199 : Index := Scalar.indexCast v12
  ![23, v199.toNat]
def k0_off461 (k0_t4 : Fin k0_t4_loop.trips) : Fin 2 → Nat :=
  let c2_i32_43 : BitVec 32 := 2#32
  let v212 : Index := Scalar.indexCast c2_i32_43
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v213 : Index := Scalar.indexCast v12
  ![2, v213.toNat]
def k0_off462 (k0_t4 : Fin k0_t4_loop.trips) : Fin 2 → Nat :=
  let c24_i32 : BitVec 32 := 24#32
  let v217 : Index := Scalar.indexCast c24_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v218 : Index := Scalar.indexCast v12
  ![24, v218.toNat]
def k0_off463 (k0_t4 : Fin k0_t4_loop.trips) : Fin 2 → Nat :=
  let c25_i32 : BitVec 32 := 25#32
  let v224 : Index := Scalar.indexCast c25_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v225 : Index := Scalar.indexCast v12
  ![25, v225.toNat]
def k0_off464 (k0_t4 : Fin k0_t4_loop.trips) : Fin 2 → Nat :=
  let c26_i32 : BitVec 32 := 26#32
  let v231 : Index := Scalar.indexCast c26_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v232 : Index := Scalar.indexCast v12
  ![26, v232.toNat]
def k0_off465 (k0_t4 : Fin k0_t4_loop.trips) : Fin 2 → Nat :=
  let c27_i32 : BitVec 32 := 27#32
  let v238 : Index := Scalar.indexCast c27_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v239 : Index := Scalar.indexCast v12
  ![27, v239.toNat]
def k0_off466 (k0_t4 : Fin k0_t4_loop.trips) : Fin 2 → Nat :=
  let c28_i32 : BitVec 32 := 28#32
  let v245 : Index := Scalar.indexCast c28_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v246 : Index := Scalar.indexCast v12
  ![28, v246.toNat]
def k0_off467 (k0_t4 : Fin k0_t4_loop.trips) : Fin 2 → Nat :=
  let c29_i32 : BitVec 32 := 29#32
  let v252 : Index := Scalar.indexCast c29_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v253 : Index := Scalar.indexCast v12
  ![29, v253.toNat]
def k0_off468 (k0_t4 : Fin k0_t4_loop.trips) : Fin 2 → Nat :=
  let c30_i32 : BitVec 32 := 30#32
  let v259 : Index := Scalar.indexCast c30_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v260 : Index := Scalar.indexCast v12
  ![30, v260.toNat]
def k0_off469 (k0_t4 : Fin k0_t4_loop.trips) : Fin 2 → Nat :=
  let c31_i32 : BitVec 32 := 31#32
  let v266 : Index := Scalar.indexCast c31_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v267 : Index := Scalar.indexCast v12
  ![31, v267.toNat]
def k0_off470 (k0_t4 : Fin k0_t4_loop.trips) : Fin 2 → Nat :=
  let c3_i32_52 : BitVec 32 := 3#32
  let v280 : Index := Scalar.indexCast c3_i32_52
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v281 : Index := Scalar.indexCast v12
  ![3, v281.toNat]
def k0_off471 (k0_t4 : Fin k0_t4_loop.trips) : Fin 2 → Nat :=
  let c32_i32_53 : BitVec 32 := 32#32
  let v285 : Index := Scalar.indexCast c32_i32_53
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v286 : Index := Scalar.indexCast v12
  ![32, v286.toNat]
def k0_off472 (k0_t4 : Fin k0_t4_loop.trips) : Fin 2 → Nat :=
  let c33_i32 : BitVec 32 := 33#32
  let v292 : Index := Scalar.indexCast c33_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v293 : Index := Scalar.indexCast v12
  ![33, v293.toNat]
def k0_off473 (k0_t4 : Fin k0_t4_loop.trips) : Fin 2 → Nat :=
  let c34_i32 : BitVec 32 := 34#32
  let v299 : Index := Scalar.indexCast c34_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v300 : Index := Scalar.indexCast v12
  ![34, v300.toNat]
def k0_off474 (k0_t4 : Fin k0_t4_loop.trips) : Fin 2 → Nat :=
  let c35_i32 : BitVec 32 := 35#32
  let v306 : Index := Scalar.indexCast c35_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v307 : Index := Scalar.indexCast v12
  ![35, v307.toNat]
def k0_off475 (k0_t4 : Fin k0_t4_loop.trips) : Fin 2 → Nat :=
  let c36_i32 : BitVec 32 := 36#32
  let v313 : Index := Scalar.indexCast c36_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v314 : Index := Scalar.indexCast v12
  ![36, v314.toNat]
def k0_off476 (k0_t4 : Fin k0_t4_loop.trips) : Fin 2 → Nat :=
  let c37_i32 : BitVec 32 := 37#32
  let v320 : Index := Scalar.indexCast c37_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v321 : Index := Scalar.indexCast v12
  ![37, v321.toNat]
def k0_off477 (k0_t4 : Fin k0_t4_loop.trips) : Fin 2 → Nat :=
  let c38_i32 : BitVec 32 := 38#32
  let v327 : Index := Scalar.indexCast c38_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v328 : Index := Scalar.indexCast v12
  ![38, v328.toNat]
def k0_off478 (k0_t4 : Fin k0_t4_loop.trips) : Fin 2 → Nat :=
  let c39_i32 : BitVec 32 := 39#32
  let v334 : Index := Scalar.indexCast c39_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v335 : Index := Scalar.indexCast v12
  ![39, v335.toNat]
def k0_off479 (k0_t4 : Fin k0_t4_loop.trips) : Fin 2 → Nat :=
  let c4_i32_62 : BitVec 32 := 4#32
  let v348 : Index := Scalar.indexCast c4_i32_62
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v349 : Index := Scalar.indexCast v12
  ![4, v349.toNat]
def k0_off480 (k0_t4 : Fin k0_t4_loop.trips) : Fin 2 → Nat :=
  let c40_i32 : BitVec 32 := 40#32
  let v353 : Index := Scalar.indexCast c40_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v354 : Index := Scalar.indexCast v12
  ![40, v354.toNat]
def k0_off481 (k0_t4 : Fin k0_t4_loop.trips) : Fin 2 → Nat :=
  let c41_i32 : BitVec 32 := 41#32
  let v360 : Index := Scalar.indexCast c41_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v361 : Index := Scalar.indexCast v12
  ![41, v361.toNat]
def k0_off482 (k0_t4 : Fin k0_t4_loop.trips) : Fin 2 → Nat :=
  let c42_i32 : BitVec 32 := 42#32
  let v367 : Index := Scalar.indexCast c42_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v368 : Index := Scalar.indexCast v12
  ![42, v368.toNat]
def k0_off483 (k0_t4 : Fin k0_t4_loop.trips) : Fin 2 → Nat :=
  let c43_i32 : BitVec 32 := 43#32
  let v374 : Index := Scalar.indexCast c43_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v375 : Index := Scalar.indexCast v12
  ![43, v375.toNat]
def k0_off484 (k0_t4 : Fin k0_t4_loop.trips) : Fin 2 → Nat :=
  let c44_i32 : BitVec 32 := 44#32
  let v381 : Index := Scalar.indexCast c44_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v382 : Index := Scalar.indexCast v12
  ![44, v382.toNat]
def k0_off485 (k0_t4 : Fin k0_t4_loop.trips) : Fin 2 → Nat :=
  let c45_i32 : BitVec 32 := 45#32
  let v388 : Index := Scalar.indexCast c45_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v389 : Index := Scalar.indexCast v12
  ![45, v389.toNat]
def k0_off486 (k0_t4 : Fin k0_t4_loop.trips) : Fin 2 → Nat :=
  let c46_i32 : BitVec 32 := 46#32
  let v395 : Index := Scalar.indexCast c46_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v396 : Index := Scalar.indexCast v12
  ![46, v396.toNat]
def k0_off487 (k0_t4 : Fin k0_t4_loop.trips) : Fin 2 → Nat :=
  let c47_i32 : BitVec 32 := 47#32
  let v402 : Index := Scalar.indexCast c47_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v403 : Index := Scalar.indexCast v12
  ![47, v403.toNat]
def k0_off488 (k0_t4 : Fin k0_t4_loop.trips) : Fin 2 → Nat :=
  let c5_i32_71 : BitVec 32 := 5#32
  let v416 : Index := Scalar.indexCast c5_i32_71
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v417 : Index := Scalar.indexCast v12
  ![5, v417.toNat]
def k0_off489 (k0_t4 : Fin k0_t4_loop.trips) : Fin 2 → Nat :=
  let c48_i32 : BitVec 32 := 48#32
  let v421 : Index := Scalar.indexCast c48_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v422 : Index := Scalar.indexCast v12
  ![48, v422.toNat]
def k0_off490 (k0_t4 : Fin k0_t4_loop.trips) : Fin 2 → Nat :=
  let c49_i32 : BitVec 32 := 49#32
  let v428 : Index := Scalar.indexCast c49_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v429 : Index := Scalar.indexCast v12
  ![49, v429.toNat]
def k0_off491 (k0_t4 : Fin k0_t4_loop.trips) : Fin 2 → Nat :=
  let c50_i32 : BitVec 32 := 50#32
  let v435 : Index := Scalar.indexCast c50_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v436 : Index := Scalar.indexCast v12
  ![50, v436.toNat]
def k0_off492 (k0_t4 : Fin k0_t4_loop.trips) : Fin 2 → Nat :=
  let c51_i32 : BitVec 32 := 51#32
  let v442 : Index := Scalar.indexCast c51_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v443 : Index := Scalar.indexCast v12
  ![51, v443.toNat]
def k0_off493 (k0_t4 : Fin k0_t4_loop.trips) : Fin 2 → Nat :=
  let c52_i32 : BitVec 32 := 52#32
  let v449 : Index := Scalar.indexCast c52_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v450 : Index := Scalar.indexCast v12
  ![52, v450.toNat]
def k0_off494 (k0_t4 : Fin k0_t4_loop.trips) : Fin 2 → Nat :=
  let c53_i32 : BitVec 32 := 53#32
  let v456 : Index := Scalar.indexCast c53_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v457 : Index := Scalar.indexCast v12
  ![53, v457.toNat]
def k0_off495 (k0_t4 : Fin k0_t4_loop.trips) : Fin 2 → Nat :=
  let c54_i32 : BitVec 32 := 54#32
  let v463 : Index := Scalar.indexCast c54_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v464 : Index := Scalar.indexCast v12
  ![54, v464.toNat]
def k0_off496 (k0_t4 : Fin k0_t4_loop.trips) : Fin 2 → Nat :=
  let c55_i32 : BitVec 32 := 55#32
  let v470 : Index := Scalar.indexCast c55_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v471 : Index := Scalar.indexCast v12
  ![55, v471.toNat]
def k0_off497 (k0_t4 : Fin k0_t4_loop.trips) : Fin 2 → Nat :=
  let c6_i32_80 : BitVec 32 := 6#32
  let v484 : Index := Scalar.indexCast c6_i32_80
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v485 : Index := Scalar.indexCast v12
  ![6, v485.toNat]
def k0_off498 (k0_t4 : Fin k0_t4_loop.trips) : Fin 2 → Nat :=
  let c56_i32 : BitVec 32 := 56#32
  let v489 : Index := Scalar.indexCast c56_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v490 : Index := Scalar.indexCast v12
  ![56, v490.toNat]
def k0_off499 (k0_t4 : Fin k0_t4_loop.trips) : Fin 2 → Nat :=
  let c57_i32 : BitVec 32 := 57#32
  let v496 : Index := Scalar.indexCast c57_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v497 : Index := Scalar.indexCast v12
  ![57, v497.toNat]
def k0_off500 (k0_t4 : Fin k0_t4_loop.trips) : Fin 2 → Nat :=
  let c58_i32 : BitVec 32 := 58#32
  let v503 : Index := Scalar.indexCast c58_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v504 : Index := Scalar.indexCast v12
  ![58, v504.toNat]
def k0_off501 (k0_t4 : Fin k0_t4_loop.trips) : Fin 2 → Nat :=
  let c59_i32 : BitVec 32 := 59#32
  let v510 : Index := Scalar.indexCast c59_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v511 : Index := Scalar.indexCast v12
  ![59, v511.toNat]
def k0_off502 (k0_t4 : Fin k0_t4_loop.trips) : Fin 2 → Nat :=
  let c60_i32 : BitVec 32 := 60#32
  let v517 : Index := Scalar.indexCast c60_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v518 : Index := Scalar.indexCast v12
  ![60, v518.toNat]
def k0_off503 (k0_t4 : Fin k0_t4_loop.trips) : Fin 2 → Nat :=
  let c61_i32 : BitVec 32 := 61#32
  let v524 : Index := Scalar.indexCast c61_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v525 : Index := Scalar.indexCast v12
  ![61, v525.toNat]
def k0_off504 (k0_t4 : Fin k0_t4_loop.trips) : Fin 2 → Nat :=
  let c62_i32 : BitVec 32 := 62#32
  let v531 : Index := Scalar.indexCast c62_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v532 : Index := Scalar.indexCast v12
  ![62, v532.toNat]
def k0_off505 (k0_t4 : Fin k0_t4_loop.trips) : Fin 2 → Nat :=
  let c63_i32 : BitVec 32 := 63#32
  let v538 : Index := Scalar.indexCast c63_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v539 : Index := Scalar.indexCast v12
  ![63, v539.toNat]
def k0_off506 (k0_t4 : Fin k0_t4_loop.trips) : Fin 2 → Nat :=
  let c7_i32_89 : BitVec 32 := 7#32
  let v552 : Index := Scalar.indexCast c7_i32_89
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v553 : Index := Scalar.indexCast v12
  ![7, v553.toNat]
def k0_off507 (k0_t4 : Fin k0_t4_loop.trips) : Fin 2 → Nat :=
  let c64_i32 : BitVec 32 := 64#32
  let v557 : Index := Scalar.indexCast c64_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v558 : Index := Scalar.indexCast v12
  ![64, v558.toNat]
def k0_off508 (k0_t4 : Fin k0_t4_loop.trips) : Fin 2 → Nat :=
  let c65_i32 : BitVec 32 := 65#32
  let v564 : Index := Scalar.indexCast c65_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v565 : Index := Scalar.indexCast v12
  ![65, v565.toNat]
def k0_off509 (k0_t4 : Fin k0_t4_loop.trips) : Fin 2 → Nat :=
  let c66_i32 : BitVec 32 := 66#32
  let v571 : Index := Scalar.indexCast c66_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v572 : Index := Scalar.indexCast v12
  ![66, v572.toNat]
def k0_off510 (k0_t4 : Fin k0_t4_loop.trips) : Fin 2 → Nat :=
  let c67_i32 : BitVec 32 := 67#32
  let v578 : Index := Scalar.indexCast c67_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v579 : Index := Scalar.indexCast v12
  ![67, v579.toNat]
def k0_off511 (k0_t4 : Fin k0_t4_loop.trips) : Fin 2 → Nat :=
  let c68_i32 : BitVec 32 := 68#32
  let v585 : Index := Scalar.indexCast c68_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v586 : Index := Scalar.indexCast v12
  ![68, v586.toNat]
def k0_off512 (k0_t4 : Fin k0_t4_loop.trips) : Fin 2 → Nat :=
  let c69_i32 : BitVec 32 := 69#32
  let v592 : Index := Scalar.indexCast c69_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v593 : Index := Scalar.indexCast v12
  ![69, v593.toNat]
def k0_off513 (k0_t4 : Fin k0_t4_loop.trips) : Fin 2 → Nat :=
  let c70_i32 : BitVec 32 := 70#32
  let v599 : Index := Scalar.indexCast c70_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v600 : Index := Scalar.indexCast v12
  ![70, v600.toNat]
def k0_off514 (k0_t4 : Fin k0_t4_loop.trips) : Fin 2 → Nat :=
  let c71_i32 : BitVec 32 := 71#32
  let v606 : Index := Scalar.indexCast c71_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v607 : Index := Scalar.indexCast v12
  ![71, v607.toNat]
def k0_off515 (k0_t4 : Fin k0_t4_loop.trips) : Fin 2 → Nat :=
  let c8_i32_98 : BitVec 32 := 8#32
  let v620 : Index := Scalar.indexCast c8_i32_98
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v621 : Index := Scalar.indexCast v12
  ![8, v621.toNat]
def k0_off516 (k0_t4 : Fin k0_t4_loop.trips) : Fin 2 → Nat :=
  let c72_i32 : BitVec 32 := 72#32
  let v625 : Index := Scalar.indexCast c72_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v626 : Index := Scalar.indexCast v12
  ![72, v626.toNat]
def k0_off517 (k0_t4 : Fin k0_t4_loop.trips) : Fin 2 → Nat :=
  let c73_i32 : BitVec 32 := 73#32
  let v632 : Index := Scalar.indexCast c73_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v633 : Index := Scalar.indexCast v12
  ![73, v633.toNat]
def k0_off518 (k0_t4 : Fin k0_t4_loop.trips) : Fin 2 → Nat :=
  let c74_i32 : BitVec 32 := 74#32
  let v639 : Index := Scalar.indexCast c74_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v640 : Index := Scalar.indexCast v12
  ![74, v640.toNat]
def k0_off519 (k0_t4 : Fin k0_t4_loop.trips) : Fin 2 → Nat :=
  let c75_i32 : BitVec 32 := 75#32
  let v646 : Index := Scalar.indexCast c75_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v647 : Index := Scalar.indexCast v12
  ![75, v647.toNat]
def k0_off520 (k0_t4 : Fin k0_t4_loop.trips) : Fin 2 → Nat :=
  let c76_i32 : BitVec 32 := 76#32
  let v653 : Index := Scalar.indexCast c76_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v654 : Index := Scalar.indexCast v12
  ![76, v654.toNat]
def k0_off521 (k0_t4 : Fin k0_t4_loop.trips) : Fin 2 → Nat :=
  let c77_i32 : BitVec 32 := 77#32
  let v660 : Index := Scalar.indexCast c77_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v661 : Index := Scalar.indexCast v12
  ![77, v661.toNat]
def k0_off522 (k0_t4 : Fin k0_t4_loop.trips) : Fin 2 → Nat :=
  let c78_i32 : BitVec 32 := 78#32
  let v667 : Index := Scalar.indexCast c78_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v668 : Index := Scalar.indexCast v12
  ![78, v668.toNat]
def k0_off523 (k0_t4 : Fin k0_t4_loop.trips) : Fin 2 → Nat :=
  let c79_i32 : BitVec 32 := 79#32
  let v674 : Index := Scalar.indexCast c79_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v675 : Index := Scalar.indexCast v12
  ![79, v675.toNat]
def k0_off524 (k0_t4 : Fin k0_t4_loop.trips) : Fin 2 → Nat :=
  let c9_i32_107 : BitVec 32 := 9#32
  let v688 : Index := Scalar.indexCast c9_i32_107
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v689 : Index := Scalar.indexCast v12
  ![9, v689.toNat]
def k0_off525 (k0_t4 : Fin k0_t4_loop.trips) : Fin 2 → Nat :=
  let c80_i32 : BitVec 32 := 80#32
  let v693 : Index := Scalar.indexCast c80_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v694 : Index := Scalar.indexCast v12
  ![80, v694.toNat]
def k0_off526 (k0_t4 : Fin k0_t4_loop.trips) : Fin 2 → Nat :=
  let c81_i32 : BitVec 32 := 81#32
  let v700 : Index := Scalar.indexCast c81_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v701 : Index := Scalar.indexCast v12
  ![81, v701.toNat]
def k0_off527 (k0_t4 : Fin k0_t4_loop.trips) : Fin 2 → Nat :=
  let c82_i32 : BitVec 32 := 82#32
  let v707 : Index := Scalar.indexCast c82_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v708 : Index := Scalar.indexCast v12
  ![82, v708.toNat]
def k0_off528 (k0_t4 : Fin k0_t4_loop.trips) : Fin 2 → Nat :=
  let c83_i32 : BitVec 32 := 83#32
  let v714 : Index := Scalar.indexCast c83_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v715 : Index := Scalar.indexCast v12
  ![83, v715.toNat]
def k0_off529 (k0_t4 : Fin k0_t4_loop.trips) : Fin 2 → Nat :=
  let c84_i32 : BitVec 32 := 84#32
  let v721 : Index := Scalar.indexCast c84_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v722 : Index := Scalar.indexCast v12
  ![84, v722.toNat]
def k0_off530 (k0_t4 : Fin k0_t4_loop.trips) : Fin 2 → Nat :=
  let c85_i32 : BitVec 32 := 85#32
  let v728 : Index := Scalar.indexCast c85_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v729 : Index := Scalar.indexCast v12
  ![85, v729.toNat]
def k0_off531 (k0_t4 : Fin k0_t4_loop.trips) : Fin 2 → Nat :=
  let c86_i32 : BitVec 32 := 86#32
  let v735 : Index := Scalar.indexCast c86_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v736 : Index := Scalar.indexCast v12
  ![86, v736.toNat]
def k0_off532 (k0_t4 : Fin k0_t4_loop.trips) : Fin 2 → Nat :=
  let c87_i32 : BitVec 32 := 87#32
  let v742 : Index := Scalar.indexCast c87_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v743 : Index := Scalar.indexCast v12
  ![87, v743.toNat]
def k0_off533 (k0_t4 : Fin k0_t4_loop.trips) : Fin 2 → Nat :=
  let c10_i32_116 : BitVec 32 := 10#32
  let v756 : Index := Scalar.indexCast c10_i32_116
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v757 : Index := Scalar.indexCast v12
  ![10, v757.toNat]
def k0_off534 (k0_t4 : Fin k0_t4_loop.trips) : Fin 2 → Nat :=
  let c88_i32 : BitVec 32 := 88#32
  let v761 : Index := Scalar.indexCast c88_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v762 : Index := Scalar.indexCast v12
  ![88, v762.toNat]
def k0_off535 (k0_t4 : Fin k0_t4_loop.trips) : Fin 2 → Nat :=
  let c89_i32 : BitVec 32 := 89#32
  let v768 : Index := Scalar.indexCast c89_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v769 : Index := Scalar.indexCast v12
  ![89, v769.toNat]
def k0_off536 (k0_t4 : Fin k0_t4_loop.trips) : Fin 2 → Nat :=
  let c90_i32 : BitVec 32 := 90#32
  let v775 : Index := Scalar.indexCast c90_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v776 : Index := Scalar.indexCast v12
  ![90, v776.toNat]
def k0_off537 (k0_t4 : Fin k0_t4_loop.trips) : Fin 2 → Nat :=
  let c91_i32 : BitVec 32 := 91#32
  let v782 : Index := Scalar.indexCast c91_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v783 : Index := Scalar.indexCast v12
  ![91, v783.toNat]
def k0_off538 (k0_t4 : Fin k0_t4_loop.trips) : Fin 2 → Nat :=
  let c92_i32 : BitVec 32 := 92#32
  let v789 : Index := Scalar.indexCast c92_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v790 : Index := Scalar.indexCast v12
  ![92, v790.toNat]
def k0_off539 (k0_t4 : Fin k0_t4_loop.trips) : Fin 2 → Nat :=
  let c93_i32 : BitVec 32 := 93#32
  let v796 : Index := Scalar.indexCast c93_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v797 : Index := Scalar.indexCast v12
  ![93, v797.toNat]
def k0_off540 (k0_t4 : Fin k0_t4_loop.trips) : Fin 2 → Nat :=
  let c94_i32 : BitVec 32 := 94#32
  let v803 : Index := Scalar.indexCast c94_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v804 : Index := Scalar.indexCast v12
  ![94, v804.toNat]
def k0_off541 (k0_t4 : Fin k0_t4_loop.trips) : Fin 2 → Nat :=
  let c95_i32 : BitVec 32 := 95#32
  let v810 : Index := Scalar.indexCast c95_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v811 : Index := Scalar.indexCast v12
  ![95, v811.toNat]
def k0_off542 (k0_t4 : Fin k0_t4_loop.trips) : Fin 2 → Nat :=
  let c11_i32_125 : BitVec 32 := 11#32
  let v824 : Index := Scalar.indexCast c11_i32_125
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v825 : Index := Scalar.indexCast v12
  ![11, v825.toNat]
def k0_off543 (k0_t4 : Fin k0_t4_loop.trips) : Fin 2 → Nat :=
  let c96_i32 : BitVec 32 := 96#32
  let v829 : Index := Scalar.indexCast c96_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v830 : Index := Scalar.indexCast v12
  ![96, v830.toNat]
def k0_off544 (k0_t4 : Fin k0_t4_loop.trips) : Fin 2 → Nat :=
  let c97_i32 : BitVec 32 := 97#32
  let v836 : Index := Scalar.indexCast c97_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v837 : Index := Scalar.indexCast v12
  ![97, v837.toNat]
def k0_off545 (k0_t4 : Fin k0_t4_loop.trips) : Fin 2 → Nat :=
  let c98_i32 : BitVec 32 := 98#32
  let v843 : Index := Scalar.indexCast c98_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v844 : Index := Scalar.indexCast v12
  ![98, v844.toNat]
def k0_off546 (k0_t4 : Fin k0_t4_loop.trips) : Fin 2 → Nat :=
  let c99_i32 : BitVec 32 := 99#32
  let v850 : Index := Scalar.indexCast c99_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v851 : Index := Scalar.indexCast v12
  ![99, v851.toNat]
def k0_off547 (k0_t4 : Fin k0_t4_loop.trips) : Fin 2 → Nat :=
  let c100_i32 : BitVec 32 := 100#32
  let v857 : Index := Scalar.indexCast c100_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v858 : Index := Scalar.indexCast v12
  ![100, v858.toNat]
def k0_off548 (k0_t4 : Fin k0_t4_loop.trips) : Fin 2 → Nat :=
  let c101_i32 : BitVec 32 := 101#32
  let v864 : Index := Scalar.indexCast c101_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v865 : Index := Scalar.indexCast v12
  ![101, v865.toNat]
def k0_off549 (k0_t4 : Fin k0_t4_loop.trips) : Fin 2 → Nat :=
  let c102_i32 : BitVec 32 := 102#32
  let v871 : Index := Scalar.indexCast c102_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v872 : Index := Scalar.indexCast v12
  ![102, v872.toNat]
def k0_off550 (k0_t4 : Fin k0_t4_loop.trips) : Fin 2 → Nat :=
  let c103_i32 : BitVec 32 := 103#32
  let v878 : Index := Scalar.indexCast c103_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v879 : Index := Scalar.indexCast v12
  ![103, v879.toNat]
def k0_off551 (k0_t4 : Fin k0_t4_loop.trips) : Fin 2 → Nat :=
  let c12_i32_134 : BitVec 32 := 12#32
  let v892 : Index := Scalar.indexCast c12_i32_134
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v893 : Index := Scalar.indexCast v12
  ![12, v893.toNat]
def k0_off552 (k0_t4 : Fin k0_t4_loop.trips) : Fin 2 → Nat :=
  let c104_i32 : BitVec 32 := 104#32
  let v897 : Index := Scalar.indexCast c104_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v898 : Index := Scalar.indexCast v12
  ![104, v898.toNat]
def k0_off553 (k0_t4 : Fin k0_t4_loop.trips) : Fin 2 → Nat :=
  let c105_i32 : BitVec 32 := 105#32
  let v904 : Index := Scalar.indexCast c105_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v905 : Index := Scalar.indexCast v12
  ![105, v905.toNat]
def k0_off554 (k0_t4 : Fin k0_t4_loop.trips) : Fin 2 → Nat :=
  let c106_i32 : BitVec 32 := 106#32
  let v911 : Index := Scalar.indexCast c106_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v912 : Index := Scalar.indexCast v12
  ![106, v912.toNat]
def k0_off555 (k0_t4 : Fin k0_t4_loop.trips) : Fin 2 → Nat :=
  let c107_i32 : BitVec 32 := 107#32
  let v918 : Index := Scalar.indexCast c107_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v919 : Index := Scalar.indexCast v12
  ![107, v919.toNat]
def k0_off556 (k0_t4 : Fin k0_t4_loop.trips) : Fin 2 → Nat :=
  let c108_i32 : BitVec 32 := 108#32
  let v925 : Index := Scalar.indexCast c108_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v926 : Index := Scalar.indexCast v12
  ![108, v926.toNat]
def k0_off557 (k0_t4 : Fin k0_t4_loop.trips) : Fin 2 → Nat :=
  let c109_i32 : BitVec 32 := 109#32
  let v932 : Index := Scalar.indexCast c109_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v933 : Index := Scalar.indexCast v12
  ![109, v933.toNat]
def k0_off558 (k0_t4 : Fin k0_t4_loop.trips) : Fin 2 → Nat :=
  let c110_i32 : BitVec 32 := 110#32
  let v939 : Index := Scalar.indexCast c110_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v940 : Index := Scalar.indexCast v12
  ![110, v940.toNat]
def k0_off559 (k0_t4 : Fin k0_t4_loop.trips) : Fin 2 → Nat :=
  let c111_i32 : BitVec 32 := 111#32
  let v946 : Index := Scalar.indexCast c111_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v947 : Index := Scalar.indexCast v12
  ![111, v947.toNat]
def k0_off560 (k0_t4 : Fin k0_t4_loop.trips) : Fin 2 → Nat :=
  let c13_i32_143 : BitVec 32 := 13#32
  let v960 : Index := Scalar.indexCast c13_i32_143
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v961 : Index := Scalar.indexCast v12
  ![13, v961.toNat]
def k0_off561 (k0_t4 : Fin k0_t4_loop.trips) : Fin 2 → Nat :=
  let c112_i32 : BitVec 32 := 112#32
  let v965 : Index := Scalar.indexCast c112_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v966 : Index := Scalar.indexCast v12
  ![112, v966.toNat]
def k0_off562 (k0_t4 : Fin k0_t4_loop.trips) : Fin 2 → Nat :=
  let c113_i32 : BitVec 32 := 113#32
  let v972 : Index := Scalar.indexCast c113_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v973 : Index := Scalar.indexCast v12
  ![113, v973.toNat]
def k0_off563 (k0_t4 : Fin k0_t4_loop.trips) : Fin 2 → Nat :=
  let c114_i32 : BitVec 32 := 114#32
  let v979 : Index := Scalar.indexCast c114_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v980 : Index := Scalar.indexCast v12
  ![114, v980.toNat]
def k0_off564 (k0_t4 : Fin k0_t4_loop.trips) : Fin 2 → Nat :=
  let c115_i32 : BitVec 32 := 115#32
  let v986 : Index := Scalar.indexCast c115_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v987 : Index := Scalar.indexCast v12
  ![115, v987.toNat]
def k0_off565 (k0_t4 : Fin k0_t4_loop.trips) : Fin 2 → Nat :=
  let c116_i32 : BitVec 32 := 116#32
  let v993 : Index := Scalar.indexCast c116_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v994 : Index := Scalar.indexCast v12
  ![116, v994.toNat]
def k0_off566 (k0_t4 : Fin k0_t4_loop.trips) : Fin 2 → Nat :=
  let c117_i32 : BitVec 32 := 117#32
  let v1000 : Index := Scalar.indexCast c117_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1001 : Index := Scalar.indexCast v12
  ![117, v1001.toNat]
def k0_off567 (k0_t4 : Fin k0_t4_loop.trips) : Fin 2 → Nat :=
  let c118_i32 : BitVec 32 := 118#32
  let v1007 : Index := Scalar.indexCast c118_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1008 : Index := Scalar.indexCast v12
  ![118, v1008.toNat]
def k0_off568 (k0_t4 : Fin k0_t4_loop.trips) : Fin 2 → Nat :=
  let c119_i32 : BitVec 32 := 119#32
  let v1014 : Index := Scalar.indexCast c119_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1015 : Index := Scalar.indexCast v12
  ![119, v1015.toNat]
def k0_off569 (k0_t4 : Fin k0_t4_loop.trips) : Fin 2 → Nat :=
  let c14_i32_152 : BitVec 32 := 14#32
  let v1028 : Index := Scalar.indexCast c14_i32_152
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1029 : Index := Scalar.indexCast v12
  ![14, v1029.toNat]
def k0_off570 (k0_t4 : Fin k0_t4_loop.trips) : Fin 2 → Nat :=
  let c120_i32 : BitVec 32 := 120#32
  let v1033 : Index := Scalar.indexCast c120_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1034 : Index := Scalar.indexCast v12
  ![120, v1034.toNat]
def k0_off571 (k0_t4 : Fin k0_t4_loop.trips) : Fin 2 → Nat :=
  let c121_i32 : BitVec 32 := 121#32
  let v1040 : Index := Scalar.indexCast c121_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1041 : Index := Scalar.indexCast v12
  ![121, v1041.toNat]
def k0_off572 (k0_t4 : Fin k0_t4_loop.trips) : Fin 2 → Nat :=
  let c122_i32 : BitVec 32 := 122#32
  let v1047 : Index := Scalar.indexCast c122_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1048 : Index := Scalar.indexCast v12
  ![122, v1048.toNat]
def k0_off573 (k0_t4 : Fin k0_t4_loop.trips) : Fin 2 → Nat :=
  let c123_i32 : BitVec 32 := 123#32
  let v1054 : Index := Scalar.indexCast c123_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1055 : Index := Scalar.indexCast v12
  ![123, v1055.toNat]
def k0_off574 (k0_t4 : Fin k0_t4_loop.trips) : Fin 2 → Nat :=
  let c124_i32 : BitVec 32 := 124#32
  let v1061 : Index := Scalar.indexCast c124_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1062 : Index := Scalar.indexCast v12
  ![124, v1062.toNat]
def k0_off575 (k0_t4 : Fin k0_t4_loop.trips) : Fin 2 → Nat :=
  let c125_i32 : BitVec 32 := 125#32
  let v1068 : Index := Scalar.indexCast c125_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1069 : Index := Scalar.indexCast v12
  ![125, v1069.toNat]
def k0_off576 (k0_t4 : Fin k0_t4_loop.trips) : Fin 2 → Nat :=
  let c126_i32 : BitVec 32 := 126#32
  let v1075 : Index := Scalar.indexCast c126_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1076 : Index := Scalar.indexCast v12
  ![126, v1076.toNat]
def k0_off577 (k0_t4 : Fin k0_t4_loop.trips) : Fin 2 → Nat :=
  let c127_i32 : BitVec 32 := 127#32
  let v1082 : Index := Scalar.indexCast c127_i32
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1083 : Index := Scalar.indexCast v12
  ![127, v1083.toNat]
def k0_off578 (k0_t4 : Fin k0_t4_loop.trips) : Fin 2 → Nat :=
  let c15_i32_161 : BitVec 32 := 15#32
  let v1096 : Index := Scalar.indexCast c15_i32_161
  let c0_i32_10 : BitVec 32 := 0#32
  let c1_i32_12 : BitVec 32 := 1#32
  let arg6 : BitVec 32 := Scf.iv c0_i32_10 c1_i32_12 k0_t4
  let c16_i32 : BitVec 32 := 16#32
  let v11 : BitVec 32 := Scalar.muli arg6 c16_i32
  let v12 : BitVec 32 := v11
  let v1097 : Index := Scalar.indexCast v12
  ![15, v1097.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x65536 : Shape := ⟨2, ![128, 65536]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S_ : Shape := ⟨0, ![]⟩
abbrev S128x1x65536 : Shape := ⟨3, ![128, 1, 65536]⟩
abbrev S128x2x65536 : Shape := ⟨3, ![128, 2, 65536]⟩
abbrev S256x65536 : Shape := ⟨2, ![256, 65536]⟩
abbrev S1x65536 : Shape := ⟨2, ![1, 65536]⟩
abbrev S2x65536 : Shape := ⟨2, ![2, 65536]⟩
abbrev S258x65536 : Shape := ⟨2, ![258, 65536]⟩
abbrev S128x2x1 : Shape := ⟨3, ![128, 2, 1]⟩
abbrev S1 : Shape := ⟨1, ![1]⟩
abbrev S1x1x1 : Shape := ⟨3, ![1, 1, 1]⟩
abbrev S64x2x1 : Shape := ⟨3, ![64, 2, 1]⟩
abbrev S64x2x65536 : Shape := ⟨3, ![64, 2, 65536]⟩
abbrev S64x65536 : Shape := ⟨2, ![64, 65536]⟩
abbrev S32x2x1 : Shape := ⟨3, ![32, 2, 1]⟩
abbrev S32x2x65536 : Shape := ⟨3, ![32, 2, 65536]⟩
abbrev S32x1x65536 : Shape := ⟨3, ![32, 1, 65536]⟩
abbrev S32x65536 : Shape := ⟨2, ![32, 65536]⟩
abbrev S16x2x1 : Shape := ⟨3, ![16, 2, 1]⟩
abbrev S16x2x65536 : Shape := ⟨3, ![16, 2, 65536]⟩
abbrev S16x65536 : Shape := ⟨2, ![16, 65536]⟩

abbrev nBuf : Space → Nat
  | .hbm => 124
  | .vmem => 0
  | .smem => 0
  | _ => 0

abbrev bufTy : (tb : Table) → Fin (tcTables nBuf tb) → BufTy
  | .hbm, ⟨0, _⟩ => ⟨S128x65536, .f32⟩
  | .hbm, ⟨1, _⟩ => ⟨S128x2, .i32⟩
  | .hbm, ⟨2, _⟩ => ⟨S64x2, .i32⟩
  | .hbm, ⟨3, _⟩ => ⟨S32x2, .i32⟩
  | .hbm, ⟨4, _⟩ => ⟨S16x2, .i32⟩
  | .hbm, ⟨5, _⟩ => ⟨S_, .f32⟩
  | .hbm, ⟨6, _⟩ => ⟨S128x65536, .f32⟩
  | .hbm, ⟨7, _⟩ => ⟨S128x65536, .f32⟩
  | .hbm, ⟨8, _⟩ => ⟨S128x1x65536, .f32⟩
  | .hbm, ⟨9, _⟩ => ⟨S128x1x65536, .f32⟩
  | .hbm, ⟨10, _⟩ => ⟨S128x2x65536, .f32⟩
  | .hbm, ⟨11, _⟩ => ⟨S256x65536, .f32⟩
  | .hbm, ⟨12, _⟩ => ⟨S_, .f32⟩
  | .hbm, ⟨13, _⟩ => ⟨S1x65536, .f32⟩
  | .hbm, ⟨14, _⟩ => ⟨S_, .f32⟩
  | .hbm, ⟨15, _⟩ => ⟨S1x65536, .f32⟩
  | .hbm, ⟨16, _⟩ => ⟨S2x65536, .f32⟩
  | .hbm, ⟨17, _⟩ => ⟨S258x65536, .f32⟩
  | .hbm, ⟨18, _⟩ => ⟨S_, .i32⟩
  | .hbm, ⟨19, _⟩ => ⟨S128x2, .i32⟩
  | .hbm, ⟨20, _⟩ => ⟨S128x2, .i1⟩
  | .hbm, ⟨21, _⟩ => ⟨S_, .i32⟩
  | .hbm, ⟨22, _⟩ => ⟨S128x2, .i32⟩
  | .hbm, ⟨23, _⟩ => ⟨S128x2, .i32⟩
  | .hbm, ⟨24, _⟩ => ⟨S128x2, .i32⟩
  | .hbm, ⟨25, _⟩ => ⟨S128x2x1, .i32⟩
  | .hbm, ⟨26, _⟩ => ⟨S1, .i32⟩
  | .hbm, ⟨27, _⟩ => ⟨S_, .i32⟩
  | .hbm, ⟨28, _⟩ => ⟨S128x2x1, .i32⟩
  | .hbm, ⟨29, _⟩ => ⟨S128x2x1, .i1⟩
  | .hbm, ⟨30, _⟩ => ⟨S1x1x1, .i32⟩
  | .hbm, ⟨31, _⟩ => ⟨S128x2x1, .i32⟩
  | .hbm, ⟨32, _⟩ => ⟨S128x2x1, .i1⟩
  | .hbm, ⟨33, _⟩ => ⟨S128x2x1, .i1⟩
  | .hbm, ⟨34, _⟩ => ⟨S_, .i1⟩
  | .hbm, ⟨35, _⟩ => ⟨S128x2, .i1⟩
  | .hbm, ⟨36, _⟩ => ⟨S128x2x65536, .f32⟩
  | .hbm, ⟨37, _⟩ => ⟨S128x2x65536, .i1⟩
  | .hbm, ⟨38, _⟩ => ⟨S_, .f32⟩
  | .hbm, ⟨39, _⟩ => ⟨S128x2x65536, .f32⟩
  | .hbm, ⟨40, _⟩ => ⟨S128x2x65536, .f32⟩
  | .hbm, ⟨41, _⟩ => ⟨S128x1x65536, .f32⟩
  | .hbm, ⟨42, _⟩ => ⟨S128x65536, .f32⟩
  | .hbm, ⟨43, _⟩ => ⟨S128x1x65536, .f32⟩
  | .hbm, ⟨44, _⟩ => ⟨S128x65536, .f32⟩
  | .hbm, ⟨45, _⟩ => ⟨S128x65536, .f32⟩
  | .hbm, ⟨46, _⟩ => ⟨S_, .i32⟩
  | .hbm, ⟨47, _⟩ => ⟨S64x2, .i32⟩
  | .hbm, ⟨48, _⟩ => ⟨S64x2, .i1⟩
  | .hbm, ⟨49, _⟩ => ⟨S_, .i32⟩
  | .hbm, ⟨50, _⟩ => ⟨S64x2, .i32⟩
  | .hbm, ⟨51, _⟩ => ⟨S64x2, .i32⟩
  | .hbm, ⟨52, _⟩ => ⟨S64x2, .i32⟩
  | .hbm, ⟨53, _⟩ => ⟨S64x2x1, .i32⟩
  | .hbm, ⟨54, _⟩ => ⟨S1, .i32⟩
  | .hbm, ⟨55, _⟩ => ⟨S_, .i32⟩
  | .hbm, ⟨56, _⟩ => ⟨S64x2x1, .i32⟩
  | .hbm, ⟨57, _⟩ => ⟨S64x2x1, .i1⟩
  | .hbm, ⟨58, _⟩ => ⟨S1x1x1, .i32⟩
  | .hbm, ⟨59, _⟩ => ⟨S64x2x1, .i32⟩
  | .hbm, ⟨60, _⟩ => ⟨S64x2x1, .i1⟩
  | .hbm, ⟨61, _⟩ => ⟨S64x2x1, .i1⟩
  | .hbm, ⟨62, _⟩ => ⟨S_, .i1⟩
  | .hbm, ⟨63, _⟩ => ⟨S64x2, .i1⟩
  | .hbm, ⟨64, _⟩ => ⟨S64x2x65536, .f32⟩
  | .hbm, ⟨65, _⟩ => ⟨S64x2x65536, .i1⟩
  | .hbm, ⟨66, _⟩ => ⟨S_, .f32⟩
  | .hbm, ⟨67, _⟩ => ⟨S64x2x65536, .f32⟩
  | .hbm, ⟨68, _⟩ => ⟨S64x2x65536, .f32⟩
  | .hbm, ⟨69, _⟩ => ⟨S_, .f32⟩
  | .hbm, ⟨70, _⟩ => ⟨S64x65536, .f32⟩
  | .hbm, ⟨71, _⟩ => ⟨S_, .i32⟩
  | .hbm, ⟨72, _⟩ => ⟨S32x2, .i32⟩
  | .hbm, ⟨73, _⟩ => ⟨S32x2, .i1⟩
  | .hbm, ⟨74, _⟩ => ⟨S_, .i32⟩
  | .hbm, ⟨75, _⟩ => ⟨S32x2, .i32⟩
  | .hbm, ⟨76, _⟩ => ⟨S32x2, .i32⟩
  | .hbm, ⟨77, _⟩ => ⟨S32x2, .i32⟩
  | .hbm, ⟨78, _⟩ => ⟨S32x2x1, .i32⟩
  | .hbm, ⟨79, _⟩ => ⟨S1, .i32⟩
  | .hbm, ⟨80, _⟩ => ⟨S_, .i32⟩
  | .hbm, ⟨81, _⟩ => ⟨S32x2x1, .i32⟩
  | .hbm, ⟨82, _⟩ => ⟨S32x2x1, .i1⟩
  | .hbm, ⟨83, _⟩ => ⟨S1x1x1, .i32⟩
  | .hbm, ⟨84, _⟩ => ⟨S32x2x1, .i32⟩
  | .hbm, ⟨85, _⟩ => ⟨S32x2x1, .i1⟩
  | .hbm, ⟨86, _⟩ => ⟨S32x2x1, .i1⟩
  | .hbm, ⟨87, _⟩ => ⟨S_, .i1⟩
  | .hbm, ⟨88, _⟩ => ⟨S32x2, .i1⟩
  | .hbm, ⟨89, _⟩ => ⟨S32x2x65536, .f32⟩
  | .hbm, ⟨90, _⟩ => ⟨S32x2x65536, .i1⟩
  | .hbm, ⟨91, _⟩ => ⟨S_, .f32⟩
  | .hbm, ⟨92, _⟩ => ⟨S32x2x65536, .f32⟩
  | .hbm, ⟨93, _⟩ => ⟨S32x2x65536, .f32⟩
  | .hbm, ⟨94, _⟩ => ⟨S32x1x65536, .f32⟩
  | .hbm, ⟨95, _⟩ => ⟨S32x65536, .f32⟩
  | .hbm, ⟨96, _⟩ => ⟨S32x1x65536, .f32⟩
  | .hbm, ⟨97, _⟩ => ⟨S32x65536, .f32⟩
  | .hbm, ⟨98, _⟩ => ⟨S32x65536, .f32⟩
  | .hbm, ⟨99, _⟩ => ⟨S_, .i32⟩
  | .hbm, ⟨100, _⟩ => ⟨S16x2, .i32⟩
  | .hbm, ⟨101, _⟩ => ⟨S16x2, .i1⟩
  | .hbm, ⟨102, _⟩ => ⟨S_, .i32⟩
  | .hbm, ⟨103, _⟩ => ⟨S16x2, .i32⟩
  | .hbm, ⟨104, _⟩ => ⟨S16x2, .i32⟩
  | .hbm, ⟨105, _⟩ => ⟨S16x2, .i32⟩
  | .hbm, ⟨106, _⟩ => ⟨S16x2x1, .i32⟩
  | .hbm, ⟨107, _⟩ => ⟨S1, .i32⟩
  | .hbm, ⟨108, _⟩ => ⟨S_, .i32⟩
  | .hbm, ⟨109, _⟩ => ⟨S16x2x1, .i32⟩
  | .hbm, ⟨110, _⟩ => ⟨S16x2x1, .i1⟩
  | .hbm, ⟨111, _⟩ => ⟨S1x1x1, .i32⟩
  | .hbm, ⟨112, _⟩ => ⟨S16x2x1, .i32⟩
  | .hbm, ⟨113, _⟩ => ⟨S16x2x1, .i1⟩
  | .hbm, ⟨114, _⟩ => ⟨S16x2x1, .i1⟩
  | .hbm, ⟨115, _⟩ => ⟨S_, .i1⟩
  | .hbm, ⟨116, _⟩ => ⟨S16x2, .i1⟩
  | .hbm, ⟨117, _⟩ => ⟨S16x2x65536, .f32⟩
  | .hbm, ⟨118, _⟩ => ⟨S16x2x65536, .i1⟩
  | .hbm, ⟨119, _⟩ => ⟨S_, .f32⟩
  | .hbm, ⟨120, _⟩ => ⟨S16x2x65536, .f32⟩
  | .hbm, ⟨121, _⟩ => ⟨S16x2x65536, .f32⟩
  | .hbm, ⟨122, _⟩ => ⟨S_, .f32⟩
  | .hbm, ⟨123, _⟩ => ⟨S16x65536, .f32⟩
  | _, _ => ⟨S128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v16 : Ref sig .tc := ⟨.hbm, 68, rfl⟩
abbrev main_cst_2 : Ref sig .tc := ⟨.hbm, 69, rfl⟩
abbrev main_v17 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v24 : Ref sig .tc := ⟨.hbm, 121, rfl⟩
abbrev main_cst_3 : Ref sig .tc := ⟨.hbm, 122, rfl⟩
abbrev main_v25 : Ref sig .tc := ⟨.hbm, 123, rfl⟩

abbrev nD : Nat := 1
abbrev τ : Topo := Topo.v7x

variable {F : FTy → Type} [FloatOps F]
-- ==== Proof.Tree.lean ====
/-
  What the kernel computes: entry `(m, n)` of the result from the eight entries `8 m, …, 8 m + 7` of column `n`.
-/
module

public import Idealize.ShloMosaic.PureOps

@[expose] public section

noncomputable section

namespace Cert.Tree

open Idealize.ShloMosaic

variable {F : FTy → Type} [FloatOps F]

/-- The number one. -/
def unit : F .f32 := Scalar.ofBits .f32 0x3F800000#32

/-- `p · (1 - p)`. -/
def gate (p : F .f32) : F .f32 := FloatOps.mulf p (FloatOps.subf unit p)

/-- Four gates: the product of two sums. -/
def quad (p : Fin 8 → F .f32) (a b c d : Fin 8) : F .f32 :=
  FloatOps.mulf (FloatOps.addf (gate (p a)) (gate (p b))) (FloatOps.addf (gate (p c)) (gate (p d)))

/-- Eight values to one: the sum of two quadruples. -/
def node (p : Fin 8 → F .f32) : F .f32 := FloatOps.addf (quad p 0 1 2 3) (quad p 4 5 6 7)

/-- Row `8 m + k` of column `n`, for the result's entry `x = (m, n)`. -/
def leafIx {n : ℕ} (x : (⟨2, ![16, n]⟩ : Shape).Idx) (k : Fin 8) : (⟨2, ![128, n]⟩ : Shape).Idx :=
  Shape.pair (d := ![128, n]) ⟨8 * (x 0).val + k.val, by have h : (x 0).val < 16 := (x 0).isLt; show _ < 128; omega⟩ (x 1)

/-- The result from the argument. -/
def tree {n : ℕ} (X : (⟨2, ![128, n]⟩ : Shape).Idx → F .f32) (x : (⟨2, ![16, n]⟩ : Shape).Idx) : F .f32 :=
  node fun k => X (leafIx x k)

end Cert.Tree

end
-- ==== Proof.TileIdeal.lean ====
/-
  The tile's program read in four levels: a cell's eight gates, an output row, a trip's sixteen rows, a chunk of 512
  columns. The program as written out IS four chunks in a row (`tile_eq`).
-/
module

public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F]

/-- The trips of every one of the four loops. -/
abbrev Trip : Type := Fin k0_t1_loop.trips

/-- The first column of trip `t`'s sixteen lanes, as the program computes it. -/
def lane0 (t : Trip) : ℕ := (Scalar.indexCast (Scalar.muli (Scf.iv 0#32 1#32 t) 16#32)).toNat

theorem lane0_eq : ∀ t : Trip, lane0 t = 16 * t.val := by decide +kernel

theorem trip_lt (t : Trip) : t.val < 32 := t.isLt

/-- Where trip `t`'s lanes of row `r` begin. -/
def at_ (r : ℕ) (t : Trip) : Fin 2 → ℕ := ![r, lane0 t]

theorem at_inb {R : ℕ} {r : ℕ} (hr : r < R) (t : Trip) : ∀ a, at_ r t a + S1x16.size a ≤ (![R, 512] : Fin 2 → ℕ) a := by
  have h := lane0_eq t
  have h' := trip_lt t
  intro a
  fin_cases a
  · show r + 1 ≤ R; omega
  · show lane0 t + 16 ≤ 512; omega

variable (i : grid0.Coords)
variable (arg2 : Memref sig .scVector .hbm S128x65536 .f32) (arg3 : Memref sig .scVector .hbm S16x65536 .f32)
variable (arg4 : Memref sig .scVector .vmem S128x512 .f32) (harg4 : arg4.IsWhole) (arg5 : Memref sig .scVector .vmem S16x512 .f32) (harg5 : arg5.IsWhole)

/-- The programs of a tile. -/
abbrev TileProg (F : FTy → Type) [FloatOps F] (i : grid0.Coords) (α : Type) : Type 1 :=
  Prog (TpuEff nD τ sig (Elt F) Λ₀ (.scVector ((i 0).castLE hcore0) ((i 1).castLE hsub0))) α

/-- Trip `t`'s lanes of row `r` of the fetched chunk, -/
abbrev xRect (r : ℕ) (hr : r < 128) (t : Trip) : Rect S128x512 := Rect.unit (s := S128x512) (at_ r t) S1x16.size (at_inb hr t)
/-- and of the result's chunk. -/
abbrev oRect (r : ℕ) (hr : r < 16) (t : Trip) : Rect S16x512 := Rect.unit (s := S16x512) (at_ r t) S1x16.size (at_inb hr t)

/-- One load of sixteen lanes. -/
def get (r : ℕ) (hr : r < 128) (t : Trip) : TileProg F i (Vec F S1x16 .f32) :=
  Prog.lift (.load arg4 (xRect r hr t).toLoadRect (View.loadsAt_vmem h_S1x16))

/-- `p · (1 - p)`, lane by lane. -/
def gate (v : Vec F S1x16 .f32) : FVec F S16 .f32 :=
  mulf (shapeCast S16 v shapeCasts_S1x16_S16) (subf (broadcast S16 (Scalar.ofBits .f32 0x3F800000#32)) (shapeCast S16 v shapeCasts_S1x16_S16))

/-- Four gates: the product of two sums. -/
def quad (a b c d : Vec F S1x16 .f32) : FVec F S16 .f32 := mulf (addf (gate a) (gate b)) (addf (gate c) (gate d))

/-- What is stored for eight rows of sixteen lanes. -/
def node (a b c d e f g h : Vec F S1x16 .f32) : Vec F S1x16 .f32 :=
  shapeCast S1x16 (addf (quad a b c d) (quad e f g h)) shapeCasts_S16_S1x16

/-- Output row `r` of trip `t`. -/
def row (r : ℕ) (hr : r < 16) (t : Trip) : TileProg F i PUnit := do
  let a ← get i arg4 (8 * r) (by omega) t
  let b ← get i arg4 (8 * r + 1) (by omega) t
  let c ← get i arg4 (8 * r + 2) (by omega) t
  let d ← get i arg4 (8 * r + 3) (by omega) t
  let e ← get i arg4 (8 * r + 4) (by omega) t
  let f ← get i arg4 (8 * r + 5) (by omega) t
  let g ← get i arg4 (8 * r + 6) (by omega) t
  let h ← get i arg4 (8 * r + 7) (by omega) t
  let _ ← Prog.lift (.load arg5 (oRect r hr t).toLoadRect (View.loadsAt_vmem h_S1x16))
  Prog.lift (.store arg5 (oRect r hr t) (node a b c d e f g h) Finset.univ (View.stores_vmem_bits_univ h_S1x16 rfl) (.inl rfl))

/-- The last `n` output rows of trip `t`. -/
def rows (t : Trip) : (n : ℕ) → n ≤ 16 → TileProg F i PUnit
  | 0, _ => pure ⟨⟩
  | n + 1, h => do
    row i arg4 arg5 (16 - (n + 1)) (by omega) t
    rows t n (by omega)

/-- The chunk's columns of the argument -/
abbrev xChunk (r : Fin 4) : Memref sig .scVector .hbm S128x512 .f32 :=
  arg2.slice (Rect.unit (s := S128x65536) (k0_off1 i (BitVec.ofNat 32 (512 * r.val))) S128x512.size (k0_off1_inb i r)) (fun _ => rfl)
/-- and of the result. -/
abbrev oChunk (r : Fin 4) : Memref sig .scVector .hbm S16x512 .f32 :=
  arg3.slice (Rect.unit (s := S16x65536) (k0_off146 i (BitVec.ofNat 32 (512 * r.val))) S16x512.size (k0_off146_inb i r)) (fun _ => rfl)

/-- One chunk: its columns fetched, its 32 trips, its result written out. -/
def chunk (r : Fin 4) (s₀ s₁ : DmaSems sig S_) : TileProg F i PUnit := do
  Prog.lift (.enqueueDma (xChunk i arg2 r) (.here arg4) (.dma s₀.sem) (View.wordExact_bits rfl) harg4.wordExact ⟨Or.inl rfl, trivial⟩)
  Prog.lift (.waitDma2 s₀.sem (xChunk i arg2 r) arg4 (View.wordExact_bits rfl) harg4.wordExact)
  Scf.Loop.for k0_t1_loop k0_t1_ok ⟨⟩ fun t _ => rows i arg4 arg5 t 16 le_rfl
  Prog.lift (.enqueueDma arg5 (.here (oChunk i arg3 r)) (.dma s₁.sem) harg5.wordExact (View.wordExact_bits rfl) ⟨Or.inl rfl, trivial⟩)
  Prog.lift (.waitDma2 s₁.sem arg5 (oChunk i arg3 r) harg5.wordExact (View.wordExact_bits rfl))

section Whole

variable (harg2 : arg2.IsWhole) (harg3 : arg3.IsWhole) (q₀ q₁ q₂ q₃ q₄ q₅ q₆ q₇ : DmaSems sig S_)

set_option maxRecDepth 65536 in
set_option maxHeartbeats 4000000 in
/-- A trip of the first loop is its sixteen rows; -/
theorem trip₁ : k0_t1_body (F := F) i arg2 harg2 arg3 harg3 arg4 harg4 arg5 harg5 q₀ q₁ q₂ q₃ q₄ q₅ q₆ q₇ = fun t _ => rows i arg4 arg5 t 16 le_rfl := rfl
set_option maxRecDepth 65536 in
set_option maxHeartbeats 4000000 in
/-- so is one of the second, -/
theorem trip₂ : k0_t2_body (F := F) i arg2 harg2 arg3 harg3 arg4 harg4 arg5 harg5 q₀ q₁ q₂ q₃ q₄ q₅ q₆ q₇ = fun t _ => rows i arg4 arg5 t 16 le_rfl := rfl
set_option maxRecDepth 65536 in
set_option maxHeartbeats 4000000 in
/-- of the third, -/
theorem trip₃ : k0_t3_body (F := F) i arg2 harg2 arg3 harg3 arg4 harg4 arg5 harg5 q₀ q₁ q₂ q₃ q₄ q₅ q₆ q₇ = fun t _ => rows i arg4 arg5 t 16 le_rfl := rfl
set_option maxRecDepth 65536 in
set_option maxHeartbeats 4000000 in
/-- and of the fourth. -/
theorem trip₄ : k0_t4_body (F := F) i arg2 harg2 arg3 harg3 arg4 harg4 arg5 harg5 q₀ q₁ q₂ q₃ q₄ q₅ q₆ q₇ = fun t _ => rows i arg4 arg5 t 16 le_rfl := rfl

/-- The kernel is four chunks in a row. -/
theorem tile_eq :
    cc0__klay_sc (F := F) i arg2 harg2 arg3 harg3 arg4 harg4 arg5 harg5 q₀ q₁ q₂ q₃ q₄ q₅ q₆ q₇
      = (do
        chunk i arg2 arg3 arg4 harg4 arg5 harg5 0 q₀ q₁
        chunk i arg2 arg3 arg4 harg4 arg5 harg5 1 q₂ q₃
        chunk i arg2 arg3 arg4 harg4 arg5 harg5 2 q₄ q₅
        chunk i arg2 arg3 arg4 harg4 arg5 harg5 3 q₆ q₇
        pure ⟨⟩) := by
  rw [cc0__klay_sc_eq_skeleton, cc0__klay_sc_skel, k0_part94_eq_skeleton, k0_part94_skel, k0_part93_eq_skeleton, k0_part93_skel]
  simp only [trip₁, trip₂, trip₃, trip₄, chunk, bind_assoc, pure_bind]
  rfl

end Whole

end Cert.KernelIdeal.Tile

end
-- ==== Proof.BodyIdeal.lean ====
/-
  A tile's program run: a row, a trip, the 32 trips of a chunk, over the two scratch buffers. The invariant speaks of
  the entries already computed: those of earlier trips, and of the current trip's earlier rows.
-/
module

public import proofs.«01_k».proof.Proof.TileIdeal
public import proofs.«01_k».proof.Proof.Tree
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ
local notation "fV" => (Memref.whole Cert.KernelIdeal.cc0_scratch0 : Memref Cert.KernelIdeal.sig Kind.scVector Space.vmem Cert.KernelIdeal.S128x512 EltTy.f32)
local notation "rV" => (Memref.whole Cert.KernelIdeal.cc0_scratch1 : Memref Cert.KernelIdeal.sig Kind.scVector Space.vmem Cert.KernelIdeal.S16x512 EltTy.f32)

abbrev 𝒱₀ : Variants := Variants.none

/-! ## What a row stores -/

/-- A gate on sixteen lanes is the gate of each lane; -/
theorem gate_at (v : Vec F S1x16 .f32) (j : S16.Idx) :
    gate v j = Tree.gate (v (Shape.reshapeEquiv shapeCasts_S1x16_S16 j)) := rfl

/-- eight rows of sixteen lanes go lane by lane to `Tree.node`. -/
theorem node_at (p : Fin 8 → Vec F S1x16 .f32) (y : S1x16.Idx) :
    node (p 0) (p 1) (p 2) (p 3) (p 4) (p 5) (p 6) (p 7) y = Tree.node fun k => p k y := by
  have e : Shape.reshapeEquiv shapeCasts_S1x16_S16 (Shape.reshapeEquiv shapeCasts_S16_S1x16 y) = y :=
    (Shape.reshapeEquiv_reshapeEquiv _ _ _).trans (Shape.reshapeEquiv_self _ _)
  show Tree.node (fun k => p k (Shape.reshapeEquiv shapeCasts_S1x16_S16 (Shape.reshapeEquiv shapeCasts_S16_S1x16 y))) = _
  rw [e]

/-- The entries computed once the first `r` rows of trip `t` are: they hold the tree of their column. -/
def Good (X : S128x512.Idx → Elt F .f32) (t r : ℕ) (f : S16x512.Idx → Elt F .f32) : Prop :=
  ∀ x : S16x512.Idx, ((x 1).val / 16 < t ∨ (x 1).val / 16 = t ∧ (x 0).val < r) → f x = Tree.tree (F := F) (n := 512) X x

theorem Good.next {X : S128x512.Idx → Elt F .f32} {t : ℕ} {f : S16x512.Idx → Elt F .f32} (h : Good X t 16 f) : Good X (t + 1) 0 f := by
  intro x hx
  refine h x ?_
  have : (x 0).val < 16 := (x 0).isLt
  omega

theorem Good.zero {X : S128x512.Idx → Elt F .f32} {f : S16x512.Idx → Elt F .f32} : Good X 0 0 f := by
  intro x hx; omega

theorem Good.all {X : S128x512.Idx → Elt F .f32} {f : S16x512.Idx → Elt F .f32} (h : Good X 32 0 f) : f = Tree.tree (F := F) (n := 512) X := by
  funext x
  refine h x (.inl ?_)
  have : (x 1).val < 512 := (x 1).isLt
  omega

/-- Row `r`'s lanes of trip `t` as the load of row `8 r + k` reads them. -/
def lanes (X : S128x512.Idx → Elt F .f32) (r : ℕ) (hr : r < 16) (t : Trip) (k : Fin 8) : Vec F S1x16 .f32 :=
  ((fV).access (xRect (8 * r + k.val) (by omega) t)).read (Elt F) X

theorem lanes_at (X : S128x512.Idx → Elt F .f32) (r : ℕ) (hr : r < 16) (t : Trip) (k : Fin 8) (y : S1x16.Idx) :
    lanes X r hr t k y = X (Tree.leafIx (n := 512) ((oRect r hr t).emb y) k) := by
  unfold lanes
  refine (View.read_apply _ _).trans ((cast_eq _ _).trans ?_)
  show X ((xRect (8 * r + k.val) (by omega) t).emb y) = _
  congr 1
  have hy : (y 0).val < 1 := (y 0).isLt
  funext a
  apply Fin.ext
  fin_cases a
  · show (8 * r + k.val) + 1 * (y 0).val = 8 * (r + 1 * (y 0).val) + k.val
    omega
  · rfl

/-- The result's scratch once row `r` of trip `t` is stored. -/
def stored (X : S128x512.Idx → Elt F .f32) (f : S16x512.Idx → Elt F .f32) (r : ℕ) (hr : r < 16) (t : Trip) : S16x512.Idx → Elt F .f32 :=
  ((rV).access (oRect r hr t)).write (Elt F) f
    (node (lanes X r hr t 0) (lanes X r hr t 1) (lanes X r hr t 2) (lanes X r hr t 3) (lanes X r hr t 4) (lanes X r hr t 5) (lanes X r hr t 6) (lanes X r hr t 7))
    Finset.univ

theorem Good.step {X : S128x512.Idx → Elt F .f32} {r : ℕ} {hr : r < 16} {t : Trip} {f : S16x512.Idx → Elt F .f32}
    (h : Good X t.val r f) : Good X t.val (r + 1) (stored X f r hr t) := by
  intro x hx
  have hl := lane0_eq t
  have hset : ((rV).access (oRect r hr t)).set = (oRect r hr t).set := View.set_slice_whole _ _
  by_cases hmem : x ∈ ((rV).access (oRect r hr t)).set
  · obtain ⟨y, -, hy⟩ := Finset.mem_map.mp hmem
    subst hy
    unfold stored
    refine (View.write_emb_of_mem _ _ (Finset.mem_univ y)).trans ((cast_eq _ _).trans ?_)
    refine (node_at (lanes X r hr t) y).trans ?_
    unfold Tree.tree
    congr 1
    funext k
    exact lanes_at X r hr t k y
  · unfold stored
    rw [View.write_of_not_mem _ _ _ hmem]
    refine h x ?_
    rcases hx with hx | ⟨hx, hx'⟩
    · exact .inl hx
    · refine .inr ⟨hx, ?_⟩
      by_contra hlt
      refine hmem ?_
      rw [hset, Rect.mem_set_unit]
      intro a
      fin_cases a
      · show r ≤ (x 0).val ∧ (x 0).val < r + 1
        omega
      · show lane0 t ≤ (x 1).val ∧ (x 1).val < lane0 t + 16
        omega

/-! ## The runs -/

section Runs

variable (d : Dev nD) (i : grid0.Coords)

/-- The tile's vector subcore. -/
abbrev thr : Thread nD τ := V d ((i 0).castLE hcore0) ((i 1).castLE hsub0)

/-- The fetched chunk's scratch at contents `X`, -/
abbrev fPts (X : S128x512.Idx → Elt F .f32) : sProp 𝕄 := (fV).view.loc (thr d i) ↦{fullShare} X
/-- the result's at `f`. -/
abbrev rPts (f : S16x512.Idx → Elt F .f32) : sProp 𝕄 := (rV).view.loc (thr d i) ↦{fullShare} f

/-- One row: eight loads, and the store of what they give. -/
theorem row_wp (X : S128x512.Idx → Elt F .f32) (f : S16x512.Idx → Elt F .f32) (r : ℕ) (hr : r < 16) (t : Trip) :
    iprop(fPts d i X ∗ rPts d i f)
      ⊢ wp frame (wpE (defs₀ (F := F)) 𝒱₀ (V d ((i 0).castLE hcore0) ((i 1).castLE hsub0)) none) Set.univ (row i fV rV r hr t)
          fun _ => iprop(fPts d i X ∗ rPts d i (stored X f r hr t)) := by
  unfold row get
  iintro ⟨Hx, Hr⟩
  sl_exec
  sl_step
  isplitl [Hx]; · iexact Hx
  iexact Hr

/-- The last `n` rows of a trip. -/
theorem rows_wp (X : S128x512.Idx → Elt F .f32) (t : Trip) : ∀ (n : ℕ) (hn : n ≤ 16) (f : S16x512.Idx → Elt F .f32), Good X t.val (16 - n) f →
    (iprop(fPts d i X ∗ rPts d i f)
      ⊢ wp frame (wpE (defs₀ (F := F)) 𝒱₀ (V d ((i 0).castLE hcore0) ((i 1).castLE hsub0)) none) Set.univ (rows i fV rV t n hn)
          fun _ => iprop(∃ f', ⌜Good X t.val 16 f'⌝ ∗ fPts d i X ∗ rPts d i f'))
  | 0, _, f, hf => by
    unfold rows
    iintro ⟨Hx, Hr⟩
    sl_step
    iexists f
    isplitr; · ipureintro; exact hf
    isplitl [Hx]; · iexact Hx
    iexact Hr
  | n + 1, hn, f, hf => by
    unfold rows
    rw [wp_bind]
    refine (row_wp d i X f (16 - (n + 1)) (by omega) t).trans (wp_mono _ _ _ fun _ => ?_)
    refine rows_wp X t n (by omega) _ ?_
    have h := hf.step (hr := by omega)
    rwa [show 16 - (n + 1) + 1 = 16 - n by omega] at h

/-- A chunk's trips: the result's scratch ends at the tree of the fetched chunk. -/
theorem trips_wp (X : S128x512.Idx → Elt F .f32) (f : S16x512.Idx → Elt F .f32) :
    iprop(fPts d i X ∗ rPts d i f)
      ⊢ wp frame (wpE (defs₀ (F := F)) 𝒱₀ (V d ((i 0).castLE hcore0) ((i 1).castLE hsub0)) none) Set.univ
          (Scf.Loop.for k0_t1_loop k0_t1_ok ⟨⟩ fun t _ => rows i fV rV t 16 le_rfl)
          fun _ => iprop(fPts d i X ∗ rPts d i (Tree.tree (F := F) (n := 512) X)) := by
  have hI : ∀ (t : Trip) (acc : PUnit), iprop(∃ f', ⌜Good X t.val 0 f'⌝ ∗ fPts d i X ∗ rPts d i f')
      ⊢ wp frame (wpE (defs₀ (F := F)) 𝒱₀ (V d ((i 0).castLE hcore0) ((i 1).castLE hsub0)) none) Set.univ (rows i fV rV t 16 le_rfl)
          fun _ => iprop(∃ f', ⌜Good X (t.val + 1) 0 f'⌝ ∗ fPts d i X ∗ rPts d i f') := by
    intro t _
    iintro ⟨%f', %hf', H⟩
    iapply (wp_wand_r frame (wpE (defs₀ (F := F)) 𝒱₀ (V d ((i 0).castLE hcore0) ((i 1).castLE hsub0)) none) Set.univ)
    isplitl [H]
    · iapply (rows_wp d i X t 16 le_rfl f' hf')
      iexact H
    · iintro %_ ⟨%g, %hg, H⟩
      iexists g
      isplitr; · ipureintro; exact hg.next
      iexact H
  refine BIBase.Entails.trans ?_ (Scf.wp_for frame (wpE (defs₀ (F := F)) 𝒱₀ (V d ((i 0).castLE hcore0) ((i 1).castLE hsub0)) none) Set.univ
    k0_t1_loop.lb k0_t1_loop.ub k0_t1_loop.st k0_t1_ok ⟨⟩ (fun t _ => rows i fV rV t 16 le_rfl)
    (fun t _ => iprop(∃ f', ⌜Good X t 0 f'⌝ ∗ fPts d i X ∗ rPts d i f')) hI)
  iintro H
  isplitl [H]
  · iexists f
    isplitr; · ipureintro; exact Good.zero
    iexact H
  · iintro %_ ⟨%g, %hg, Hx, Hr⟩
    obtain rfl := Good.all (X := X) hg
    isplitl [Hx]; · iexact Hx
    iexact Hr

/-! ## A chunk -/

local notation "xV" => (Memref.whole Cert.KernelIdeal.main_arg0_scv : Memref Cert.KernelIdeal.sig Kind.scVector Space.hbm Cert.KernelIdeal.S128x65536 EltTy.f32)
local notation "oV" => (Memref.whole Cert.KernelIdeal.main_v0_scv : Memref Cert.KernelIdeal.sig Kind.scVector Space.hbm Cert.KernelIdeal.S16x65536 EltTy.f32)

/-- The argument and the result, on device `d`. -/
abbrev xLoc : Loc nD τ sig := (SparseCore.T d).loc main_arg0
abbrev oLoc : Loc nD τ sig := (SparseCore.T d).loc main_v0

/-- The chunk's columns of the argument at the whole argument's contents `x`, -/
abbrev xcPts (r : Fin 4) (x : S128x65536.Idx → Elt F .f32) : sProp 𝕄 :=
  (xChunk i xV r).view.loc (thr d i) ↦[(xChunk i xV r).view.set]{fullShare} x
/-- and those of the result at `o`. -/
abbrev ocPts (r : Fin 4) (o : S16x65536.Idx → Elt F .f32) : sProp 𝕄 :=
  (oChunk i oV r).view.loc (thr d i) ↦[(oChunk i oV r).view.set]{fullShare} o

/-- A cell of the tile's own, at zero. -/
abbrev cell0 (s : DmaSems sig S_) : sProp 𝕄 := semVal (thr d i, SemLoc.dma s.sem) 0

variable (O : CellTallies nD τ sig (HIx 1)) (W : Waits sig (HIx 1))

/-- What a tile holds between two chunks: its two scratch buffers, at anything, and the waits so far. -/
def idle : sProp 𝕄 :=
  iprop((∃ X, fPts (F := F) d i X) ∗ (∃ f, rPts (F := F) d i f) ∗ Transfers.MayWaits (thr d i) (none : HIx 1) O
    ∗ ∃ W', ⌜∀ p ∈ W', p ∈ W ∨ p.2 = none⌝ ∗ owes (thr d i) O W')

/-- A chunk's result, written out, is the tree of the whole argument on the chunk's columns. -/
theorem written (r : Fin 4) (x : S128x65536.Idx → Elt F .f32) (o : S16x65536.Idx → Elt F .f32) :
    ∀ z ∈ (oChunk i oV r).view.set,
      (oChunk i oV r).view.writes (Elt F) o [⟨Rect.whole S16x512, Tree.tree (F := F) (n := 512) ((xChunk i xV r).view.read (Elt F) x)⟩] z
        = Tree.tree (F := F) (n := 65536) x z := by
  intro z hz
  obtain ⟨y, -, hy⟩ := Finset.mem_map.mp hz
  subst hy
  have e : (oChunk i oV r).view.emb y = ((oChunk i oV r).view.slice (Rect.whole S16x512)).emb y :=
    congrArg (oChunk i oV r).view.emb (Rect.emb_whole_apply S16x512 y).symm
  refine (congrArg _ e).trans ((View.write_emb_of_mem (v := (oChunk i oV r).view.slice (Rect.whole S16x512)) _ _ (Finset.mem_univ y)).trans ((cast_eq _ _).trans ?_))
  show Tree.node (fun k => (xChunk i xV r).view.read (Elt F) x (Tree.leafIx y k)) = Tree.node fun k => x (Tree.leafIx ((oChunk i oV r).view.emb y) k)
  congr 1
  funext k
  refine (View.read_apply _ _).trans ((cast_eq _ _).trans ?_)
  congr 1
  funext a
  apply Fin.ext
  fin_cases a
  · show k0_off1 i (BitVec.ofNat 32 (512 * r.val)) 0 + 1 * (8 * (y 0).val + k.val)
      = 8 * (k0_off146 i (BitVec.ofNat 32 (512 * r.val)) 0 + 1 * (y 0).val) + k.val
    rw [k0_off1_eq, k0_off146_eq]
    simp
  · show k0_off1 i (BitVec.ofNat 32 (512 * r.val)) 1 + 1 * (y 1).val = k0_off146 i (BitVec.ofNat 32 (512 * r.val)) 1 + 1 * (y 1).val
    rw [k0_off1_eq, k0_off146_eq]

/-- One chunk. -/
theorem chunk_wp (r : Fin 4) (s₀ s₁ : DmaSems sig S_) (x : S128x65536.Idx → Elt F .f32) (o : S16x65536.Idx → Elt F .f32) :
    iprop(idle (F := F) d i O W ∗ (cell0 (F := F) d i s₀ ∗ cell0 (F := F) d i s₁) ∗ xcPts d i r x ∗ ocPts d i r o)
      ⊢ wp frame (wpE (defs₀ (F := F)) 𝒱₀ (V d ((i 0).castLE hcore0) ((i 1).castLE hsub0)) none) Set.univ
          (chunk i xV oV fV (Memref.isWhole_whole _) rV (Memref.isWhole_whole _) r s₀ s₁)
          fun _ => iprop(idle (F := F) d i O W ∗ (cell0 (F := F) d i s₀ ∗ cell0 (F := F) d i s₁) ∗ xcPts d i r x
            ∗ ocPts d i r (Tree.tree (F := F) (n := 65536) x)) := by
  unfold chunk idle
  iintro ⟨⟨⟨%X, Hf⟩, ⟨%f, Hr⟩, Hmw, %W', %hW', HO⟩, ⟨Hs0, Hs1⟩, Hx, Ho⟩
  sl_exec
  ihave Hf' := (Entails.of_eq (show ((fV).view.loc (thr d i) ↦{fullShare} View.write (Elt F) (fV).view X (chunk_wp.sl.dma0 i r x) Finset.univ : sProp 𝕄)
      = fPts d i ((xChunk i xV r).view.read (Elt F) x) by rw [View.write_whole_univ]; rfl)) $$ Hf
  irw [wp_bind]
  iapply (wp_wand_r frame (wpE (defs₀ (F := F)) 𝒱₀ (V d ((i 0).castLE hcore0) ((i 1).castLE hsub0)) none) Set.univ)
  isplitl [Hf' Hr]
  · iapply (trips_wp d i ((xChunk i xV r).view.read (Elt F) x) f)
    isplitl [Hf'] <;> iassumption
  iintro %_ ⟨Hf, Hr⟩
  sl_exec
  sl_step
  isplitl [Hf Hr Hmw HO]
  · isplitl [Hf]; · iexists _; iexact Hf
    isplitl [Hr]; · iexists _; iexact Hr
    isplitl [Hmw]; · iexact Hmw
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [Hs0 Hs1]
  · isplitl [Hs0] <;> iassumption
  isplitl [Hx]; · iexact Hx
  iapply (Entails.of_eq (show ((oChunk i oV r).view.loc (thr d i) ↦[(oChunk i oV r).view.set]{fullShare}
        (oChunk i oV r).view.writes (Elt F) o [⟨Rect.whole S16x512, chunk_wp.sl.dma0_1 i r x⟩] : sProp 𝕄)
      = ocPts d i r (Tree.tree (F := F) (n := 65536) x) from pointsTo_congr (written i r x o)))
  iexact Ho

/-- A tile: its four chunks. -/
theorem tile_wp (x : S128x65536.Idx → Elt F .f32) (o : S16x65536.Idx → Elt F .f32) :
    iprop(idle (F := F) d i O W
        ∗ ((cell0 (F := F) d i cc0_scoped0 ∗ cell0 (F := F) d i cc0_scoped1) ∗ (cell0 (F := F) d i cc0_scoped2 ∗ cell0 (F := F) d i cc0_scoped3)
          ∗ (cell0 (F := F) d i cc0_scoped4 ∗ cell0 (F := F) d i cc0_scoped5) ∗ (cell0 (F := F) d i cc0_scoped6 ∗ cell0 (F := F) d i cc0_scoped7))
        ∗ (xcPts d i 0 x ∗ xcPts d i 1 x ∗ xcPts d i 2 x ∗ xcPts d i 3 x)
        ∗ (ocPts d i 0 o ∗ ocPts d i 1 o ∗ ocPts d i 2 o ∗ ocPts d i 3 o))
      ⊢ wp frame (wpE (defs₀ (F := F)) 𝒱₀ (V d ((i 0).castLE hcore0) ((i 1).castLE hsub0)) none) Set.univ
          (cc0__klay_sc i xV (Memref.isWhole_whole _) oV (Memref.isWhole_whole _) fV (Memref.isWhole_whole _) rV (Memref.isWhole_whole _)
            cc0_scoped0 cc0_scoped1 cc0_scoped2 cc0_scoped3 cc0_scoped4 cc0_scoped5 cc0_scoped6 cc0_scoped7)
          fun _ => iprop(idle (F := F) d i O W
            ∗ ((cell0 (F := F) d i cc0_scoped0 ∗ cell0 (F := F) d i cc0_scoped1) ∗ (cell0 (F := F) d i cc0_scoped2 ∗ cell0 (F := F) d i cc0_scoped3)
              ∗ (cell0 (F := F) d i cc0_scoped4 ∗ cell0 (F := F) d i cc0_scoped5) ∗ (cell0 (F := F) d i cc0_scoped6 ∗ cell0 (F := F) d i cc0_scoped7))
            ∗ (xcPts d i 0 x ∗ xcPts d i 1 x ∗ xcPts d i 2 x ∗ xcPts d i 3 x)
            ∗ (ocPts d i 0 (Tree.tree (F := F) (n := 65536) x) ∗ ocPts d i 1 (Tree.tree (F := F) (n := 65536) x)
              ∗ ocPts d i 2 (Tree.tree (F := F) (n := 65536) x) ∗ ocPts d i 3 (Tree.tree (F := F) (n := 65536) x))) := by
  rw [tile_eq]
  simp only [wp_bind]
  iintro ⟨HI, ⟨Hs0, Hs1, Hs2, Hs3⟩, ⟨Hx0, Hx1, Hx2, Hx3⟩, Ho0, Ho1, Ho2, Ho3⟩
  iapply (wp_wand_r frame (wpE (defs₀ (F := F)) 𝒱₀ (V d ((i 0).castLE hcore0) ((i 1).castLE hsub0)) none) Set.univ)
  isplitl [HI Hs0 Hx0 Ho0]
  · iapply (chunk_wp d i O W 0 cc0_scoped0 cc0_scoped1 x o)
    isplitl [HI]; · iexact HI
    isplitl [Hs0]; · iexact Hs0
    isplitl [Hx0] <;> iassumption
  iintro %_ ⟨HI, Hs0, Hx0, Ho0⟩
  iapply (wp_wand_r frame (wpE (defs₀ (F := F)) 𝒱₀ (V d ((i 0).castLE hcore0) ((i 1).castLE hsub0)) none) Set.univ)
  isplitl [HI Hs1 Hx1 Ho1]
  · iapply (chunk_wp d i O W 1 cc0_scoped2 cc0_scoped3 x o)
    isplitl [HI]; · iexact HI
    isplitl [Hs1]; · iexact Hs1
    isplitl [Hx1] <;> iassumption
  iintro %_ ⟨HI, Hs1, Hx1, Ho1⟩
  iapply (wp_wand_r frame (wpE (defs₀ (F := F)) 𝒱₀ (V d ((i 0).castLE hcore0) ((i 1).castLE hsub0)) none) Set.univ)
  isplitl [HI Hs2 Hx2 Ho2]
  · iapply (chunk_wp d i O W 2 cc0_scoped4 cc0_scoped5 x o)
    isplitl [HI]; · iexact HI
    isplitl [Hs2]; · iexact Hs2
    isplitl [Hx2] <;> iassumption
  iintro %_ ⟨HI, Hs2, Hx2, Ho2⟩
  iapply (wp_wand_r frame (wpE (defs₀ (F := F)) 𝒱₀ (V d ((i 0).castLE hcore0) ((i 1).castLE hsub0)) none) Set.univ)
  isplitl [HI Hs3 Hx3 Ho3]
  · iapply (chunk_wp d i O W 3 cc0_scoped6 cc0_scoped7 x o)
    isplitl [HI]; · iexact HI
    isplitl [Hs3]; · iexact Hs3
    isplitl [Hx3] <;> iassumption
  iintro %_ ⟨HI, Hs3, Hx3, Ho3⟩
  rw [wp_pure]
  imodintro
  isplitl [HI]; · iexact HI
  isplitl [Hs0 Hs1 Hs2 Hs3]
  · isplitl [Hs0]; · iexact Hs0
    isplitl [Hs1]; · iexact Hs1
    isplitl [Hs2] <;> iassumption
  isplitl [Hx0 Hx1 Hx2 Hx3]
  · isplitl [Hx0]; · iexact Hx0
    isplitl [Hx1]; · iexact Hx1
    isplitl [Hx2] <;> iassumption
  isplitl [Ho0]; · iexact Ho0
  isplitl [Ho1]; · iexact Ho1
  isplitl [Ho2] <;> iassumption

end Runs

end Cert.KernelIdeal.Tile

end
-- ==== Proof.LaunchIdeal.lean ====
/-
  The launch: the argument's and the result's columns dealt in blocks of 512 to the 32 tiles, each tile's run from
  `tile_wp`, and the whole result read off at the end.
-/
module

public import proofs.«01_k».proof.Proof.BodyIdeal

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "fV" => (Memref.whole Cert.KernelIdeal.cc0_scratch0 : Memref Cert.KernelIdeal.sig Kind.scVector Space.vmem Cert.KernelIdeal.S128x512 EltTy.f32)
local notation "rV" => (Memref.whole Cert.KernelIdeal.cc0_scratch1 : Memref Cert.KernelIdeal.sig Kind.scVector Space.vmem Cert.KernelIdeal.S16x512 EltTy.f32)
local notation "xV" => (Memref.whole Cert.KernelIdeal.main_arg0_scv : Memref Cert.KernelIdeal.sig Kind.scVector Space.hbm Cert.KernelIdeal.S128x65536 EltTy.f32)
local notation "oV" => (Memref.whole Cert.KernelIdeal.main_v0_scv : Memref Cert.KernelIdeal.sig Kind.scVector Space.hbm Cert.KernelIdeal.S16x65536 EltTy.f32)

/-! ## The program and the ghost state -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Sums over two and over four -/

theorem sum_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem sum_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The columns' blocks -/

/-- The tile at SparseCore `c`, subcore `s`. -/
def coordsV (c : Fin 2) (s : Fin 16) : grid0.Coords :=
  fun | 0 => c | 1 => s | ⟨_ + 2, h⟩ => absurd h (Nat.not_lt.2 (Nat.le_add_left _ _))

/-- A block: a SparseCore, a subcore, a chunk. -/
abbrev Blk : Type := Fin 2 × Fin 16 × Fin 4

/-- The block of columns `512 n, …, 512 n + 511` is block `n`. -/
def blkNo (p : Blk) : ℕ := 8 * p.2.1.val + 4 * p.1.val + p.2.2.val

theorem blkNo_inj {p p' : Blk} (h : blkNo p = blkNo p') : p = p' := by
  obtain ⟨c, s, r⟩ := p
  obtain ⟨c', s', r'⟩ := p'
  simp only [blkNo] at h
  refine Prod.ext (Fin.ext ?_) (Prod.ext (Fin.ext ?_) (Fin.ext ?_)) <;> dsimp only <;> omega

/-- Every column is in a block. -/
theorem blkNo_surj {n : ℕ} (h : n < 128) : ∃ p, blkNo p = n :=
  ⟨(⟨n / 4 % 2, by omega⟩, ⟨n / 8, by omega⟩, ⟨n % 4, by omega⟩), by simp only [blkNo]; omega⟩

abbrev xSet (p : Blk) : Finset S128x65536.Idx := (xChunk (coordsV p.1 p.2.1) xV p.2.2).view.set
abbrev oSet (p : Blk) : Finset S16x65536.Idx := (oChunk (coordsV p.1 p.2.1) oV p.2.2).view.set

theorem mem_xSet (p : Blk) (z : S128x65536.Idx) : z ∈ xSet p ↔ (z 1).val / 512 = blkNo p := by
  have hz : (z 0).val < 128 := (z 0).isLt
  have h1 : k0_off1 (coordsV p.1 p.2.1) (BitVec.ofNat 32 (512 * p.2.2.val)) 1 = 512 * blkNo p := by
    rw [k0_off1_eq]; show 4096 * p.2.1.val + 2048 * p.1.val + 512 * p.2.2.val = _; simp only [blkNo]; omega
  have h0 : k0_off1 (coordsV p.1 p.2.1) (BitVec.ofNat 32 (512 * p.2.2.val)) 0 = 0 := by rw [k0_off1_eq]; rfl
  rw [show xSet p = (Rect.unit (s := S128x65536) (k0_off1 (coordsV p.1 p.2.1) (BitVec.ofNat 32 (512 * p.2.2.val))) S128x512.size (k0_off1_inb (coordsV p.1 p.2.1) p.2.2)).set
    from View.set_slice_whole _ _, Rect.mem_set_unit]
  constructor
  · intro h
    have h' : k0_off1 (coordsV p.1 p.2.1) (BitVec.ofNat 32 (512 * p.2.2.val)) 1 ≤ (z 1).val
      ∧ (z 1).val < k0_off1 (coordsV p.1 p.2.1) (BitVec.ofNat 32 (512 * p.2.2.val)) 1 + 512 := h 1
    omega
  · intro h a
    fin_cases a
    · show k0_off1 (coordsV p.1 p.2.1) (BitVec.ofNat 32 (512 * p.2.2.val)) 0 ≤ (z 0).val
        ∧ (z 0).val < k0_off1 (coordsV p.1 p.2.1) (BitVec.ofNat 32 (512 * p.2.2.val)) 0 + 128
      omega
    · show k0_off1 (coordsV p.1 p.2.1) (BitVec.ofNat 32 (512 * p.2.2.val)) 1 ≤ (z 1).val
        ∧ (z 1).val < k0_off1 (coordsV p.1 p.2.1) (BitVec.ofNat 32 (512 * p.2.2.val)) 1 + 512
      omega

theorem mem_oSet (p : Blk) (z : S16x65536.Idx) : z ∈ oSet p ↔ (z 1).val / 512 = blkNo p := by
  have hz : (z 0).val < 16 := (z 0).isLt
  have h1 : k0_off146 (coordsV p.1 p.2.1) (BitVec.ofNat 32 (512 * p.2.2.val)) 1 = 512 * blkNo p := by
    rw [k0_off146_eq]; show 4096 * p.2.1.val + 2048 * p.1.val + 512 * p.2.2.val = _; simp only [blkNo]; omega
  have h0 : k0_off146 (coordsV p.1 p.2.1) (BitVec.ofNat 32 (512 * p.2.2.val)) 0 = 0 := by rw [k0_off146_eq]; rfl
  rw [show oSet p = (Rect.unit (s := S16x65536) (k0_off146 (coordsV p.1 p.2.1) (BitVec.ofNat 32 (512 * p.2.2.val))) S16x512.size (k0_off146_inb (coordsV p.1 p.2.1) p.2.2)).set
    from View.set_slice_whole _ _, Rect.mem_set_unit]
  constructor
  · intro h
    have h' : k0_off146 (coordsV p.1 p.2.1) (BitVec.ofNat 32 (512 * p.2.2.val)) 1 ≤ (z 1).val
      ∧ (z 1).val < k0_off146 (coordsV p.1 p.2.1) (BitVec.ofNat 32 (512 * p.2.2.val)) 1 + 512 := h 1
    omega
  · intro h a
    fin_cases a
    · show k0_off146 (coordsV p.1 p.2.1) (BitVec.ofNat 32 (512 * p.2.2.val)) 0 ≤ (z 0).val
        ∧ (z 0).val < k0_off146 (coordsV p.1 p.2.1) (BitVec.ofNat 32 (512 * p.2.2.val)) 0 + 16
      omega
    · show k0_off146 (coordsV p.1 p.2.1) (BitVec.ofNat 32 (512 * p.2.2.val)) 1 ≤ (z 1).val
        ∧ (z 1).val < k0_off146 (coordsV p.1 p.2.1) (BitVec.ofNat 32 (512 * p.2.2.val)) 1 + 512
      omega

/-- A family of sets told apart by a column's block deals an array into its blocks. -/
theorem deal {ℓ : Loc nD τ sig} (B : Blk → Finset (Idx ℓ)) (col : Idx ℓ → ℕ) (hcol : ∀ z, col z < 65536)
    (hB : ∀ p z, z ∈ B p ↔ col z / 512 = blkNo p) (f : Buf (Elt F) ℓ) :
    (ℓ ↦{fullShare} f : sProp 𝕄)
      = bigSep Finset.univ fun c : Fin 2 => bigSep Finset.univ fun s : Fin 16 => bigSep Finset.univ fun r : Fin 4 => ℓ ↦[B (c, s, r)]{fullShare} f := by
  classical
  have hcover : (Finset.univ : Finset Blk).biUnion B = Finset.univ := by
    ext z
    simp only [Finset.mem_biUnion, Finset.mem_univ, true_and, iff_true]
    obtain ⟨p, hp⟩ := blkNo_surj (n := col z / 512) (by have := hcol z; omega)
    exact ⟨p, (hB p z).mpr hp.symm⟩
  have hdisj : ∀ p ∈ (Finset.univ : Finset Blk), ∀ p' ∈ (Finset.univ : Finset Blk), p ≠ p' → Disjoint (B p) (B p') := by
    intro p _ p' _ hne
    refine Finset.disjoint_left.mpr fun z hz hz' => hne (blkNo_inj ?_)
    rw [← (hB p z).mp hz, (hB p' z).mp hz']
  rw [show (ℓ ↦{fullShare} f : sProp 𝕄) = (ℓ ↦[(Finset.univ : Finset Blk).biUnion B]{fullShare} f : sProp 𝕄) by rw [hcover],
    pointsTo_biUnion Finset.univ B hdisj, bigSep_univ_prod]
  refine bigSep_congr fun c _ => ?_
  rw [bigSep_univ_prod]

/-! ## What the handshakes carry -/

/-- A tile's blocks: its four chunks' columns of the argument, and of the result. -/
def tilePts (d : Dev nD) (i : grid0.Coords) (x : S128x65536.Idx → Elt F .f32) (o : S16x65536.Idx → Elt F .f32) : sProp 𝕄 :=
  iprop((xcPts d i 0 x ∗ xcPts d i 1 x ∗ xcPts d i 2 x ∗ xcPts d i 3 x) ∗ (ocPts d i 0 o ∗ ocPts d i 1 o ∗ ocPts d i 2 o ∗ ocPts d i 3 o))

/-- A SparseCore's: its sixteen tiles'. -/
def corePts (d : Dev nD) (c : Fin 2) (x : S128x65536.Idx → Elt F .f32) (o : S16x65536.Idx → Elt F .f32) : sProp 𝕄 :=
  bigSep Finset.univ fun s : Fin 16 => tilePts d (coordsV c s) x o

/-- The argument and the result, whole, are the two SparseCores'. -/
theorem whole_eq (d : Dev nD) (x : S128x65536.Idx → Elt F .f32) (o : S16x65536.Idx → Elt F .f32) :
    (iprop((xLoc d ↦{fullShare} x) ∗ oLoc d ↦{fullShare} o) : sProp 𝕄) = bigSep Finset.univ fun c : Fin 2 => corePts d c x o := by
  rw [deal (F := F) (ℓ := xLoc d) xSet (fun z : S128x65536.Idx => (z 1).val) (fun z : S128x65536.Idx => (z 1).isLt) mem_xSet x,
    deal (F := F) (ℓ := oLoc d) oSet (fun z : S16x65536.Idx => (z 1).val) (fun z : S16x65536.Idx => (z 1).isLt) mem_oSet o, ← bigSep_sep']
  refine bigSep_congr fun c _ => ?_
  unfold corePts
  rw [← bigSep_sep']
  refine bigSep_congr fun s _ => ?_
  rw [sum_four, sum_four]
  rfl

variable (m : (ℓ : Loc nD τ sig) → Buf (Elt F) ℓ) (ρ : Dev nD → PrngReg)

/-- The result, from the launch memory. -/
abbrev result (d : Dev nD) : S16x65536.Idx → Elt F .f32 := Tree.tree (F := F) (n := 65536) (m (xLoc d))

/-- The one call: each SparseCore takes its blocks and gives them back, the result's at the tree; so does each tile. -/
def P : (K (F := F)).Pay (nD := nD) (Val := Elt F) (Name := ℕ) (U := UU) where
  st := fun q d c => match q with | 0 => corePts d (Fin.cast nCore_zero c) (m (xLoc d)) (m (oLoc d))
  dn := fun q d c => match q with | 0 => corePts d (Fin.cast nCore_zero c) (m (xLoc d)) (result m d)
  go := fun q d c s => match q with | 0 => tilePts d (coordsV (Fin.cast nCore_zero c) (Fin.cast nSub_zero s)) (m (xLoc d)) (m (oLoc d))
  td := fun q d c s => match q with | 0 => tilePts d (coordsV (Fin.cast nCore_zero c) (Fin.cast nSub_zero s)) (m (xLoc d)) (result m d)
  x := fun _ _ => iprop(emp)

instance tilePts_storable (d : Dev nD) (i : grid0.Coords) (x : S128x65536.Idx → Elt F .f32) (o : S16x65536.Idx → Elt F .f32) :
    BI.Storable (upEmb : UEmb _ 𝕄) (tilePts d i x o) := by
  unfold tilePts; infer_instance

instance corePts_storable (d : Dev nD) (c : Fin 2) (x : S128x65536.Idx → Elt F .f32) (o : S16x65536.Idx → Elt F .f32) :
    BI.Storable (upEmb : UEmb _ 𝕄) (corePts d c x o) := by
  unfold corePts; infer_instance

instance P_storable : (P (F := F) m).IsStorable where
  st q d c := match q with | 0 => corePts_storable d _ _ _
  dn q d c := match q with | 0 => corePts_storable d _ _ _
  go q d c s := match q with | 0 => tilePts_storable d _ _ _
  td q d c s := match q with | 0 => tilePts_storable d _ _ _

/-! ## A tile's task -/

section Task

variable (d : Dev nD) (i : grid0.Coords)

/-- The semaphores of a tile's transfers: of chunk `r`, the one in and the one out. -/
def semOf (p : Fin 4 × Fin 2) : SemLoc sig :=
  .dma (![![cc0_scoped0.sem, cc0_scoped1.sem], ![cc0_scoped2.sem, cc0_scoped3.sem], ![cc0_scoped4.sem, cc0_scoped5.sem],
    ![cc0_scoped6.sem, cc0_scoped7.sem]] p.1 p.2)

theorem semOf_inj : ∀ p p', semOf p = semOf p' → p = p' := by decide
theorem semOf_scoped : ∀ p, (semOf p).isScoped .scVector = true := by decide

/-- The eight cells of a tile's transfers. -/
def cellOf : Fin 4 × Fin 2 ↪ GSem nD τ sig where
  toFun p := (thr d i, semOf p)
  inj' := fun p p' h => semOf_inj p p' (Prod.ext_iff.mp h).2

theorem cellOf_own : (Finset.univ.map (cellOf d i)) ⊆ ownCells (thr d i) := by
  intro g hg
  obtain ⟨p, -, rfl⟩ := Finset.mem_map.mp hg
  exact mem_ownCells.mpr ⟨rfl, semOf_scoped p⟩

/-- The eight cells are among the subcore's own. -/
theorem ownSems0_tile :
    (ownSems0 (thr d i) : sProp 𝕄)
      = iprop(((cell0 (F := F) d i cc0_scoped0 ∗ cell0 (F := F) d i cc0_scoped1) ∗ (cell0 (F := F) d i cc0_scoped2 ∗ cell0 (F := F) d i cc0_scoped3)
          ∗ (cell0 (F := F) d i cc0_scoped4 ∗ cell0 (F := F) d i cc0_scoped5) ∗ (cell0 (F := F) d i cc0_scoped6 ∗ cell0 (F := F) d i cc0_scoped7))
        ∗ bigSep (ownCells (thr d i) \ Finset.univ.map (cellOf d i)) fun g => semVal g 0) := by
  unfold SparseCore.Cfg.ownSems0
  refine (bigSep_sdiff_split (cellOf_own d i)).trans ?_
  congr 1
  rw [bigSep_map, bigSep_univ_prod, sum_four, sum_two, sum_two, sum_two, sum_two]
  rfl

/-- So are the two scratch buffers. -/
theorem ownBufs_tile :
    (ownBufs (thr d i) : sProp 𝕄)
      = iprop((∃ X, fPts (F := F) d i X) ∗ (∃ f, rPts (F := F) d i f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]
  rfl

/-- The task, as the launch asks for it. -/
theorem task (hF : (K (F := F)).Facts) (O : CellTallies nD τ sig (HIx 1)) (W : Waits sig (HIx 1)) (hO : ∀ g, O g none = 0) :
    iprop(levAts (K (F := F)).L (K (F := F)).lev ∗ emp ∗ tilePts d i (m (xLoc d)) (m (oLoc d))
        ∗ scopedBufs (thr d i) ∗ scopedSems0 (thr d i) ∗ owes (thr d i) O W)
      ⊢ wp frame (wpE (defs₀ (F := F)) 𝒱₀ (thr d i) none) Set.univ
          (cc0__klay_sc i xV (Memref.isWhole_whole _) oV (Memref.isWhole_whole _) fV (Memref.isWhole_whole _) rV (Memref.isWhole_whole _)
            cc0_scoped0 cc0_scoped1 cc0_scoped2 cc0_scoped3 cc0_scoped4 cc0_scoped5 cc0_scoped6 cc0_scoped7)
          fun _ => iprop(tilePts d i (m (xLoc d)) (result m d) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_tile, ownBufs_tile]
  unfold tilePts
  iintro ⟨#Hlv, -, ⟨Hx, Ho⟩, ⟨Hf, Hr, Hbufs⟩, ⟨Hcells, Hsems⟩, HO⟩
  ihave Hmw := (show levAts (K (F := F)).L (K (F := F)).lev ⊢ Transfers.MayWaits (thr d i) (none : HIx 1) O from
    (K (F := F)).mayWaits_none (thr := thr d i) hO) $$ Hlv
  iapply (wp_wand_r frame (wpE (defs₀ (F := F)) 𝒱₀ (thr d i) none) Set.univ)
  isplitl [Hf Hr Hmw HO Hcells Hx Ho]
  · iapply (tile_wp d i O W (m (xLoc d)) (m (oLoc d)))
    isplitl [Hf Hr Hmw HO]
    · unfold idle
      isplitl [Hf]; · iexact Hf
      isplitl [Hr]; · iexact Hr
      isplitl [Hmw]; · iexact Hmw
      iexists W; isplitr
      · ipureintro; exact fun p hp => .inl hp
      · iexact HO
    isplitl [Hcells]; · iexact Hcells
    isplitl [Hx] <;> iassumption
  iintro %_ ⟨HI, Hcells, Hx, Ho⟩
  unfold idle
  icases HI with ⟨Hf, Hr, -, %W', %hW', HO⟩
  isplitl [Hx Ho]; · isplitl [Hx] <;> iassumption
  isplitl [Hf Hr Hbufs]
  · isplitl [Hf]; · iexact Hf
    isplitl [Hr] <;> iassumption
  isplitl [Hcells Hsems]; · isplitl [Hcells] <;> iassumption
  iexists W'; isplitr
  · ipureintro; exact fun p hp => (hW' p hp).imp_right Or.inl
  · iexact HO

end Task

theorem defs₀_vector (c : Fin τ.nSC) (s : Fin τ.nSub) :
    defs₀ (F := F) (.scVector c s) 0 ()
      = SparseCore.onTile hcore0 hsub0 (fun c s => cc0__klay_sc (coordsV c s)
          xV (Memref.isWhole_whole _) oV (Memref.isWhole_whole _) fV (Memref.isWhole_whole _) rV (Memref.isWhole_whole _)
          cc0_scoped0 cc0_scoped1 cc0_scoped2 cc0_scoped3 cc0_scoped4 cc0_scoped5 cc0_scoped6 cc0_scoped7) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task m d (coordsV ⟨_, hci.1⟩ ⟨_, hci.2⟩) hF O W hO

theorem sum_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem sum_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's blocks are its tiles', before and after. -/
theorem vecSplit : (K (F := F)).VecSplit' (P m) 0 := by
  intro d c
  show corePts d (Fin.cast nCore_zero c) (m (xLoc d)) (m (oLoc d)) ⊢ |={Set.univ}=> iprop(
      (bigSep Finset.univ fun s : Fin ((K (F := F)).nSub 0) => tilePts d (coordsV (Fin.cast nCore_zero c) (Fin.cast nSub_zero s)) (m (xLoc d)) (m (oLoc d)))
      ∗ ((bigSep Finset.univ fun s : Fin ((K (F := F)).nSub 0) => tilePts d (coordsV (Fin.cast nCore_zero c) (Fin.cast nSub_zero s)) (m (xLoc d)) (result m d))
          -∗ corePts d (Fin.cast nCore_zero c) (m (xLoc d)) (result m d)))
  rw [sum_tasks (F := F) (fun s => tilePts d (coordsV (Fin.cast nCore_zero c) s) (m (xLoc d)) (m (oLoc d))),
    sum_tasks (F := F) (fun s => tilePts d (coordsV (Fin.cast nCore_zero c) s) (m (xLoc d)) (result m d))]
  unfold corePts
  iintro H; imodintro
  isplitl [H]; · iexact H
  iintro H; iexact H

/-! ## The launch element of the ghost state -/

def u₀ : UU := (initOf (K (F := F)).hsCells (K (F := F)).hsToks, 1)

theorem sum_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [sum_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), sum_emp]
  iempintro

/-! ## @main -/

/-- The four index arrays. -/
abbrev aLoc (d : Dev nD) (b : Ref sig .tc) : Loc nD τ sig := (SparseCore.T d).loc b

theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d main_arg1 ↦{fullShare} W main_arg1) ∗ (aLoc d main_arg2 ↦{fullShare} W main_arg2)
      ∗ (aLoc d main_arg3 ↦{fullShare} W main_arg3) ∗ (aLoc d main_arg4 ↦{fullShare} W main_arg4) ∗ oLoc d ↦{fullShare} W main_v0) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ oLoc d ↦{fullShare} m (oLoc d)) :=
  (sum_cores (F := F) fun c => corePts d c (m (xLoc d)) (m (oLoc d))).trans (whole_eq d _ _).symm
theorem dn0_eq (d : Dev nD) : (bigSep Finset.univ fun c : Fin ((K (F := F)).nCore 0) => (P m).dn 0 d c)
    = iprop((xLoc d ↦{fullShare} m (xLoc d)) ∗ oLoc d ↦{fullShare} result m d) :=
  (sum_cores (F := F) fun c => corePts d c (m (xLoc d)) (result m d)).trans (whole_eq d _ _).symm

/-- What is held at the end: the arguments as they were, and the result. -/
abbrev FIN (d : Dev nD) : sProp 𝕄 :=
  iprop((xLoc d ↦{fullShare} m (xLoc d)) ∗ (aLoc d main_arg1 ↦{fullShare} m (aLoc d main_arg1)) ∗ (aLoc d main_arg2 ↦{fullShare} m (aLoc d main_arg2))
    ∗ (aLoc d main_arg3 ↦{fullShare} m (aLoc d main_arg3)) ∗ (aLoc d main_arg4 ↦{fullShare} m (aLoc d main_arg4)) ∗ oLoc d ↦{fullShare} result m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, H1, H2, H3, H4, Ho⟩, Hts, -⟩, -⟩
  iapply ((K (F := F)).wp_run (D (F := F)) 𝒱 (EH := EH) (P := P m) κ d 0) $$ [Hst Hx H1 H2 H3 H4 Ho Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  imodintro
  isplitl [Hst]; · iexact Hst
  isplitr [Hb Hts]
  · isplitl [Hx]; · iexact Hx
    isplitl [H1]; · iexact H1
    isplitl [H2]; · iexact H2
    isplitl [H3]; · iexact H3
    isplitl [H4] <;> iassumption
  isplitl [Hb] <;> iassumption

/-- The final memory, on device `d`. -/
def fq (d : Dev nD) (s' : Phys nD τ sig (Elt F)) : Prop :=
  s'.mem.mem (oLoc d) = result m d ∧ s'.mem.mem (xLoc d) = m (xLoc d) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4)

/-- An array held whole is what the memory holds. -/
theorem agree {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun z => h z (Finset.mem_univ z)
  · iexact HSI

set_option maxRecDepth 16384 in
theorem hfin (d : Dev nD) (s' : Phys nD τ sig (Elt F)) : iprop(FIN m d ∗ SI s') ⊢ (⌜fq m d s'⌝ : sProp 𝕄) := by
  iintro ⟨⟨Hx, H1, H2, H3, H4, Ho⟩, HSI⟩
  ihave H := (agree (m (xLoc d)) s') $$ [HSI Hx]; · isplitl [HSI] <;> iassumption
  icases H with ⟨%hx, HSI⟩
  ihave H := (agree (m (aLoc d main_arg1)) s') $$ [HSI H1]; · isplitl [HSI] <;> iassumption
  icases H with ⟨%h1, HSI⟩
  ihave H := (agree (m (aLoc d main_arg2)) s') $$ [HSI H2]; · isplitl [HSI] <;> iassumption
  icases H with ⟨%h2, HSI⟩
  ihave H := (agree (m (aLoc d main_arg3)) s') $$ [HSI H3]; · isplitl [HSI] <;> iassumption
  icases H with ⟨%h3, HSI⟩
  ihave H := (agree (m (aLoc d main_arg4)) s') $$ [HSI H4]; · isplitl [HSI] <;> iassumption
  icases H with ⟨%h4, HSI⟩
  ihave H := (agree (ℓ := oLoc d) (result m d) s') $$ [HSI Ho]; · isplitl [HSI] <;> iassumption
  icases H with ⟨%ho, HSI⟩
  ipureintro; exact ⟨ho, hx, h1, h2, h3, h4⟩

/-! ## The run -/

/-- The run's end: on every device the result is the tree of the argument, every argument is as it was, and every
    semaphore is back at zero. -/
def Done : PUnit × MemSt nD τ sig (Elt F) → Prop := fun r =>
  (∀ d : Dev nD, r.2.mem (oLoc d) = result m d ∧ r.2.mem (xLoc d) = m (xLoc d) ∧ r.2.mem (aLoc d main_arg1) = m (aLoc d main_arg1)
    ∧ r.2.mem (aLoc d main_arg2) = m (aLoc d main_arg2) ∧ r.2.mem (aLoc d main_arg3) = m (aLoc d main_arg3)
    ∧ r.2.mem (aLoc d main_arg4) = m (aLoc d main_arg4)) ∧ r.2.sem = fun _ => 0

theorem run_main [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Done m) (fun _ h hz => ⟨h, hz⟩)

end Cert.KernelIdeal.Tile

end
-- ==== Proof.Take.lean ====
/-
  A layer of the circuit, for any number of rows, pairs and columns: `jnp.take` of rows by pairs of indices, the
  product of a pair and the sum of a pair, each read at an index; and the test that an index array lists consecutive
  rows in pairs.
-/
module

public import Idealize.ShloMosaic.PureOps
public import Idealize.ShloMosaic.Lib.StableHlo.Predicate
public import Idealize.ShloMosaic.Lib.ReduceAll
public import Idealize.ShloMosaic.Lib.StableHlo
public import Idealize.ShloMosaic.Lib.Pipeline.Value
public import Idealize.ShloMosaic.PureOps.Ideal.Laws

@[expose] public section

noncomputable section

namespace Cert.Take

open Idealize.ShloMosaic

/-- An index of a rectangle. -/
abbrev at2 {a b : ℕ} (i : Fin a) (j : Fin b) : (⟨2, ![a, b]⟩ : Shape).Idx := fun | ⟨0, _⟩ => i | ⟨1, _⟩ => j
/-- An index of a box. -/
abbrev at3 {a b c : ℕ} (i : Fin a) (j : Fin b) (k : Fin c) : (⟨3, ![a, b, c]⟩ : Shape).Idx := fun | ⟨0, _⟩ => i | ⟨1, _⟩ => j | ⟨2, _⟩ => k

variable {α : Type} {N n m : ℕ}

/-- The gather of rows named by pairs: where the pair `i`'s entry `p` is the number of row `k`, it reads row `k`. -/
theorem gather_pairs (d : GatherDims ⟨2, ![N, m]⟩ ⟨3, ![n, 2, 1]⟩ ⟨3, ![n, 2, m]⟩)
    (hod : d.offsetDims = [2]) (hcd : d.collapsedSliceDims = [0]) (hob : d.operandBatchingDims = []) (hsb : d.startIndicesBatchingDims = [])
    (hsm : d.startIndexMap = [0]) (hiv : d.indexVectorDim = 2) (hss : d.sliceSizes = ![1, m])
    (x : (⟨2, ![N, m]⟩ : Shape).Idx → α) (idx : IVec ⟨3, ![n, 2, 1]⟩ 32) (i : Fin n) (p : Fin 2) (c : Fin m) (k : Fin N)
    (hk : idx (at3 i p 0) = BitVec.ofNat 32 k.val) (hN : N < 2 ^ 31) :
    Host.gather d x idx (at3 i p c) = x (at2 k c) := by
  obtain ⟨od, cd, ob, sb, sm, iv, ss, wf⟩ := d
  dsimp only at hod hcd hob hsb hsm hiv hss
  subst hod hcd hob hsb hsm hiv hss
  have hkN := k.isLt
  unfold Host.gather
  refine congrArg x (funext fun a => Fin.ext ?_)
  fin_cases a
  · have hs : GatherDims.siIdx (s := ⟨2, ![N, m]⟩) (si := ⟨3, ![n, 2, 1]⟩) (t := ⟨3, ![n, 2, m]⟩) ⟨[2], [0], [], [], [0], 2, ![1, m], wf⟩ (at3 i p c) ⟨0, Nat.one_pos⟩ = at3 i p 0 := by
      funext b; fin_cases b <;> rfl
    show min (idx (GatherDims.siIdx (s := ⟨2, ![N, m]⟩) (si := ⟨3, ![n, 2, 1]⟩) (t := ⟨3, ![n, 2, m]⟩) ⟨[2], [0], [], [], [0], 2, ![1, m], wf⟩ (at3 i p c) ⟨0, Nat.one_pos⟩)).toInt.toNat (N - 1) + 0 + 0 = k.val
    rw [hs, hk, StableHlo.Predicate.toInt_ofNat_small _ (by omega)]
    omega
  · exact (Nat.zero_add _).trans rfl

/-! ## The take -/

abbrev Dot : Shape := ⟨0, ![]⟩

section Take

variable (d : GatherDims ⟨2, ![N, m]⟩ ⟨3, ![n, 2, 1]⟩ ⟨3, ![n, 2, m]⟩) (top : ℕ)
  (h0 : Dot.BroadcastsInDim ⟨2, ![n, 2]⟩ ![]) (h1 : (⟨2, ![n, 2]⟩ : Shape).BroadcastsInDim ⟨3, ![n, 2, 1]⟩ ![0, 1])
  (h2 : Dot.BroadcastsInDim ⟨3, ![n, 2, 1]⟩ ![]) (h3 : (⟨1, ![1]⟩ : Shape).BroadcastsInDim ⟨3, ![1, 1, 1]⟩ ![2])
  (h4 : (⟨3, ![1, 1, 1]⟩ : Shape).BroadcastsInDim ⟨3, ![n, 2, 1]⟩ ![0, 1, 2]) (h5 : (⟨3, ![n, 2, 1]⟩ : Shape).ReducesTo [2] ⟨2, ![n, 2]⟩)
  (h6 : (⟨2, ![n, 2]⟩ : Shape).BroadcastsInDim ⟨3, ![n, 2, m]⟩ ![0, 1]) (hu : 0 < Dot.numel)

/-- The indices, a negative one counted from the end, as a column of starts. -/
def starts (rows : BitVec 32) (a : IVec ⟨2, ![n, 2]⟩ 32) : IVec ⟨3, ![n, 2, 1]⟩ 32 :=
  broadcastInDim ⟨3, ![n, 2, 1]⟩ ![0, 1] h1
    (select (cmpi .slt a (broadcastInDim ⟨2, ![n, 2]⟩ ![] h0 (constantI Dot 32 0#32)))
      (addi a (broadcastInDim ⟨2, ![n, 2]⟩ ![] h0 (constantI Dot 32 rows))) a)

/-- Which starts are rows. -/
def inside (rows last : BitVec 32) (a : IVec ⟨2, ![n, 2]⟩ 32) : IVec ⟨2, ![n, 2]⟩ 1 :=
  Host.reduce IntOp.andi
    (andi (cmpi .sge (starts h0 h1 rows a) (broadcastInDim ⟨3, ![n, 2, 1]⟩ ![] h2 (constantI Dot 32 0#32)))
      (cmpi .sle (starts h0 h1 rows a)
        (broadcastInDim ⟨3, ![n, 2, 1]⟩ ![0, 1, 2] h4 (broadcastInDim ⟨3, ![1, 1, 1]⟩ ![2] h3 (constantI ⟨1, ![1]⟩ 32 last)))))
    (constantI Dot 1 1#1) h5 hu

/-- The rows taken, another value where the start is no row. -/
def taken (rows last : BitVec 32) (x : (⟨2, ![N, m]⟩ : Shape).Idx → α) (other : (⟨3, ![n, 2, m]⟩ : Shape).Idx → α)
    (a : IVec ⟨2, ![n, 2]⟩ 32) : (⟨3, ![n, 2, m]⟩ : Shape).Idx → α :=
  select (broadcastInDim ⟨3, ![n, 2, m]⟩ ![0, 1] h6 (inside h0 h1 h2 h3 h4 h5 hu rows last a)) (Host.gather d x (starts h0 h1 rows a)) other

theorem starts_apply (rows : BitVec 32) (a : IVec ⟨2, ![n, 2]⟩ 32) (k : ℕ) (hk : k < 2 ^ 31) (z : (⟨3, ![n, 2, 1]⟩ : Shape).Idx)
    (ha : a (at2 (z 0) (z 1)) = BitVec.ofNat 32 k) : starts h0 h1 rows a z = BitVec.ofNat 32 k := by
  unfold starts
  refine (broadcastInDim_apply ![0, 1] h1 _ z (at2 (z 0) (z 1)) fun b => ?_).trans ?_
  · fin_cases b
    · have hz : (z 0).val < n := (z 0).isLt
      show (z 0).val = if n = 1 then 0 else (z 0).val
      split <;> omega
    · rfl
  show (if IntOp.cmpi .slt (a (at2 (z 0) (z 1))) 0#32 = 1#1 then _ else a (at2 (z 0) (z 1))) = _
  rw [ha, if_neg]
  rw [show (0#32 : BitVec 32) = BitVec.ofNat 32 0 from rfl, StableHlo.Predicate.slt_iff_toNat (by simp; omega) (by decide)]
  exact Nat.not_lt_zero _

/-- Where every index is a row's number, the take reads that row. -/
theorem taken_apply (hod : d.offsetDims = [2]) (hcd : d.collapsedSliceDims = [0]) (hob : d.operandBatchingDims = [])
    (hsb : d.startIndicesBatchingDims = []) (hsm : d.startIndexMap = [0]) (hiv : d.indexVectorDim = 2) (hss : d.sliceSizes = ![1, m])
    (rows : BitVec 32) (hN : N < 2 ^ 31) (x : (⟨2, ![N, m]⟩ : Shape).Idx → α) (other : (⟨3, ![n, 2, m]⟩ : Shape).Idx → α)
    (a : IVec ⟨2, ![n, 2]⟩ 32) (row : Fin n → Fin 2 → Fin N) (ha : ∀ i p, a (at2 i p) = BitVec.ofNat 32 (row i p).val)
    (i : Fin n) (p : Fin 2) (c : Fin m) :
    taken d h0 h1 h2 h3 h4 h5 h6 hu rows (BitVec.ofNat 32 (N - 1)) x other a (at3 i p c) = x (at2 (row i p) c) := by
  have hs : ∀ z, starts h0 h1 rows a z = BitVec.ofNat 32 (row (z 0) (z 1)).val := fun z =>
    starts_apply h0 h1 rows a _ (by have := (row (z 0) (z 1)).isLt; omega) z (ha _ _)
  have hin : ∀ q, inside h0 h1 h2 h3 h4 h5 hu rows (BitVec.ofNat 32 (N - 1)) a q = 1#1 := fun q => by
    refine Host.reduce_andi_one _ _ h5 hu q rfl fun z => ?_
    have hr := (row (z 0) (z 1)).isLt
    show IntOp.andi (IntOp.cmpi .sge (starts h0 h1 rows a z) 0#32) (IntOp.cmpi .sle (starts h0 h1 rows a z) (BitVec.ofNat 32 (N - 1))) = 1#1
    rw [hs]
    have e1 : IntOp.cmpi .sge (BitVec.ofNat 32 (row (z 0) (z 1)).val) 0#32 = 1#1 :=
      (StableHlo.Predicate.sge_iff_toNat (by simp; omega) (by decide)).mpr (Nat.zero_le _)
    have e2 : IntOp.cmpi .sle (BitVec.ofNat 32 (row (z 0) (z 1)).val) (BitVec.ofNat 32 (N - 1)) = 1#1 :=
      (StableHlo.Predicate.sle_iff_toNat (by simp; omega) (by simp; omega)).mpr (by simp; omega)
    rw [e1, e2]; rfl
  unfold taken
  show (if (inside h0 h1 h2 h3 h4 h5 hu rows (BitVec.ofNat 32 (N - 1)) a _) = 1#1 then Host.gather d x (starts h0 h1 rows a) (at3 i p c) else _) = _
  rw [if_pos (hin _)]
  exact gather_pairs d hod hcd hob hsb hsm hiv hss x _ i p c (row i p) (hs _) hN

end Take

/-! ## The product and the sum of a pair -/

section Layer

variable {F : FTy → Type} [FloatOps F]

/-- Half `p` of a box of pairs. -/
theorem half_apply (y : (⟨3, ![n, 2, m]⟩ : Shape).Idx → α) (p : Fin 2) (hs : (⟨3, ![n, 2, m]⟩ : Shape).Slices ![0, p.val, 0] ⟨3, ![n, 1, m]⟩)
    (hc : (⟨3, ![n, 1, m]⟩ : Shape).ShapeCasts ⟨2, ![n, m]⟩) (i : Fin n) (c : Fin m) :
    shapeCast _ (extractStridedSlice ⟨3, ![n, 1, m]⟩ ![0, p.val, 0] y hs) hc (at2 i c) = y (at3 i p c) := by
  rw [shapeCast_apply _ hc (at2 i c) (at3 i 0 c) (by
    rw [Shape.rowMajor_val_three, Shape.rowMajor_val_two]
    show (i.val * 1 + 0) * m + c.val = i.val * m + c.val
    rw [Nat.mul_one, Nat.add_zero])]
  refine extractStridedSlice_apply ![0, p.val, 0] y hs (at3 i 0 c) (at3 i p c) fun b => ?_
  fin_cases b
  · exact (Nat.zero_add _).symm
  · rfl
  · exact (Nat.zero_add _).symm

/-- The sum over the pairs, at the extended reals. -/
theorem sum_apply (y : FVec Ideal ⟨3, ![n, 2, m]⟩ .f32) (h : (⟨3, ![n, 2, m]⟩ : Shape).ReducesTo [1] ⟨2, ![n, m]⟩)
    (hR : (⟨3, ![n, 2, m]⟩ : Shape).Reduces [1] ⟨2, ![n, m]⟩) (hu : 0 < Dot.numel) (i : Fin n) (c : Fin m) :
    Host.reduceAdd y (constant Dot .f32 0x00000000#32) h hu (at2 i c) = FloatOps.addf (y (at3 i 0 c)) (y (at3 i 1 c)) := by
  simp only [Host.reduceAdd, Ideal.hostReduceAdd_def]
  rw [Ideal.hostReduceAdd_single h hR]
  have hl : ∀ k : Fin 2, hR.lift (at2 i c) k = at3 i k c := fun k => funext fun b => Fin.ext (by fin_cases b <;> rfl)
  refine (congrArg (_ + ·) (Fin.sum_univ_two fun k => y (hR.lift (at2 i c) k))).trans ?_
  rw [hl, hl]
  exact (congrArg (· + _) Ideal.ofBits_zero_f32).trans (zero_add _)

end Layer

/-! ## The circuit's indices -/

/-- An array found equal to `start + 2 · iota₀ + iota₁` lists `start, start + 1, …` in pairs. -/
theorem pairs_of (start : ℕ) (a : IVec ⟨2, ![n, 2]⟩ 32) (h : Dot.BroadcastsInDim ⟨2, ![n, 2]⟩ ![]) (hr : (⟨2, ![n, 2]⟩ : Shape).ReducesTo [0, 1] Dot)
    (hu : 0 < Dot.numel) (j : Dot.Idx)
    (e : Host.reduce IntOp.andi (cmpi .eq a (addi (addi (broadcastInDim ⟨2, ![n, 2]⟩ ![] h (constantI Dot 32 (BitVec.ofNat 32 start)))
        (muli (broadcastInDim ⟨2, ![n, 2]⟩ ![] h (constantI Dot 32 2#32)) (iotaInDim ⟨2, ![n, 2]⟩ 32 0))) (iotaInDim ⟨2, ![n, 2]⟩ 32 1)))
      (constantI Dot 1 1#1) hr hu j = 1#1) (i : Fin n) (p : Fin 2) :
    a (at2 i p) = BitVec.ofNat 32 (start + 2 * i.val + p.val) := by
  haveI : Subsingleton Dot.Idx := ⟨fun _ _ => funext fun b => b.elim0⟩
  have h1 := StableHlo.Predicate.cmpi_eq_iff.mp (Host.reduce_andi_all _ _ hr hu j e (at2 i p))
  rw [h1]
  show (BitVec.ofNat 32 start + 2#32 * BitVec.ofNat 32 i.val) + BitVec.ofNat 32 p.val = _
  rw [BitVec.ofNat_add, BitVec.ofNat_add, BitVec.ofNat_mul]

end Cert.Take

end
-- ==== Proof.RefValue.lean ====
/-
  The reference's result under the precondition: the index arrays list consecutive rows in pairs, so that entry
  `(m, n)` of the result is the tree of column `n`'s entries `8 m, …, 8 m + 7`.
-/
module

public import proofs.«01_k».proof.Proof.Gen.ReferenceIdeal.Read
public import proofs.«01_k».proof.Pre_circuit
public import proofs.«01_k».proof.Proof.Take
public import proofs.«01_k».proof.Proof.Tree

@[expose] public section

noncomputable section

namespace Cert.ReferenceIdeal.Circuit

open Idealize.ShloMosaic Cert.ReferenceIdeal Cert.ReferenceIdeal.Gen Cert.ReferenceIdeal.Read Cert.Take

/-- The index array lists `start, start + 1, …` in pairs. -/
def Lists {n : ℕ} (start : ℕ) (a : IVec ⟨2, ![n, 2]⟩ 32) : Prop := ∀ i p, a (at2 i p) = BitVec.ofNat 32 (start + 2 * i.val + p.val)

/-! ## The precondition -/

theorem and_one {a b : BitVec 1} (h : IntOp.andi a b = 1#1) : a = 1#1 ∧ b = 1#1 := by
  revert a b; decide

/-- The precondition says that the four index arrays are the circuit's. -/
theorem lists_of_pre [Cert.Pre_circuit.Facts] {F : FTy → Type} [FloatOps F] (x : FVec F S128x65536 .f32) (a₀ : IVec S128x2 32) (a₁ : IVec S64x2 32)
    (a₂ : IVec S32x2 32) (a₃ : IVec S16x2 32) (h : Cert.Pre_circuit.fn (F := F) x a₀ a₁ a₂ a₃ = fun _ => 1#1) :
    Lists 2 a₀ ∧ Lists 0 a₁ ∧ Lists 0 a₂ ∧ Lists 0 a₃ := by
  have j : Dot.Idx := fun b => b.elim0
  have e := congrFun h j
  obtain ⟨e, e₃⟩ := and_one e
  obtain ⟨e, e₂⟩ := and_one e
  obtain ⟨e₀, e₁⟩ := and_one e
  exact ⟨fun i p => pairs_of 2 a₀ _ _ _ j e₀ i p, fun i p => pairs_of 0 a₁ _ _ _ j e₁ i p, fun i p => pairs_of 0 a₂ _ _ _ j e₂ i p,
    fun i p => pairs_of 0 a₃ _ _ _ j e₃ i p⟩

/-! ## The encoded input -/

abbrev Arr : Type := S128x65536.Idx → Elt Ideal .f32

/-- Row `2 + 2 i + p` of the encoded input is row `i`, or one less it. -/
theorem encoded (x : Arr) (i : Fin 128) (c : Fin 65536) :
    val_main_v9 (F := Ideal) x (at2 ⟨2 + 2 * i.val + 0, by omega⟩ c) = x (at2 i c)
    ∧ val_main_v9 (F := Ideal) x (at2 ⟨2 + 2 * i.val + 1, by omega⟩ c) = FloatOps.subf (F := Ideal) (φ := .f32) (Tree.unit (F := Ideal)) (x (at2 i c)) := by
  -- past the two leading rows, entry `(2 i + p, c)` of the pairs laid end to end
  have h9 : ∀ p : Fin 2, val_main_v9 (F := Ideal) x (at2 ⟨2 + 2 * i.val + p.val, by omega⟩ c) = val_main_v4 (F := Ideal) x (at3 i p c) := fun p => by
    have hp := p.isLt
    have hc := c.isLt
    refine (concatenate_pair_apply_right (t := S258x65536) (s₁ := S2x65536) (s₂ := S256x65536) 0 (val_main_v8 (F := Ideal)) (val_main_v5 (F := Ideal) x)
      concatenates_S2x65536_S256x65536_S258x65536_d0 _ rfl rfl (at2 (a := 256) (b := 65536) ⟨2 * i.val + p.val, by omega⟩ c) ?_ ?_).trans ?_
    · rintro ⟨_ | _ | b, hb⟩ hne
      · exact absurd rfl hne
      · rfl
      · exact absurd hb (by show ¬ b + 2 < 2; omega)
    · show 2 * i.val + p.val + 2 = 2 + 2 * i.val + p.val; omega
    rw [val_main_v5_apply]
    refine congrArg _ (funext fun b => Fin.ext ?_)
    fin_cases b
    · show ((2 * i.val + p.val) * 65536 + c.val) / 131072 = i.val; omega
    · show ((2 * i.val + p.val) * 65536 + c.val) / 65536 % 2 = p.val; omega
    · show ((2 * i.val + p.val) * 65536 + c.val) % 65536 = c.val; omega
  have hx : ∀ z : S128x65536.Idx, z = at2 (z 0) (z 1) := fun z => funext fun b => by fin_cases b <;> rfl
  constructor
  · refine (h9 0).trans ((concatenate_pair_apply_left (t := S128x2x65536) (s₁ := S128x1x65536) (s₂ := S128x1x65536) 1 (val_main_v2 (F := Ideal) x)
      (val_main_v3 (F := Ideal) x) concatenates_S128x1x65536_S128x1x65536_S128x2x65536_d1 _ rfl (at3 (a := 128) (b := 1) (c := 65536) i 0 c) ?_).trans ?_)
    · rintro ⟨_ | _ | _ | b, hb⟩
      · rfl
      · rfl
      · rfl
      · exact absurd hb (by show ¬ b + 3 < 3; omega)
    rw [val_main_v2_apply]
    exact congrArg x (hx _)
  · refine (h9 1).trans ((concatenate_pair_apply_right (t := S128x2x65536) (s₁ := S128x1x65536) (s₂ := S128x1x65536) 1 (val_main_v2 (F := Ideal) x)
      (val_main_v3 (F := Ideal) x) concatenates_S128x1x65536_S128x1x65536_S128x2x65536_d1 _ rfl rfl (at3 (a := 128) (b := 1) (c := 65536) i 0 c) ?_ ?_).trans ?_)
    · rintro ⟨_ | _ | _ | b, hb⟩ hne
      · rfl
      · exact absurd rfl hne
      · rfl
      · exact absurd hb (by show ¬ b + 3 < 3; omega)
    · rfl
    rw [val_main_v3_apply, val_main_v1_apply, val_main_v0_apply]
    exact congrArg (fun z => FloatOps.subf (F := Ideal) (φ := .f32) (Tree.unit (F := Ideal)) (x z)) (hx _)

/-! ## The layers -/

section Layers

variable (x : Arr) (a₀ : IVec S128x2 32) (a₁ : IVec S64x2 32) (a₂ : IVec S32x2 32) (a₃ : IVec S16x2 32)

/-- The first layer: each row times one less it. -/
theorem layer₀ (h : Lists 2 a₀) (i : Fin 128) (c : Fin 65536) : val_main_v15 (F := Ideal) x a₀ (at2 i c) = Tree.gate (F := Ideal) (x (at2 i c)) := by
  have ht : ∀ p, val_main_v10 (F := Ideal) x a₀ (at3 i p c) = val_main_v9 (F := Ideal) x (at2 ⟨2 + 2 * i.val + p.val, by omega⟩ c) := fun p =>
    taken_apply gather_S258x65536_S128x2x1_S128x2x65536_2_0_n_n_0_2_165536 _ _ _ _ _ _ _ _ rfl rfl rfl rfl rfl rfl rfl 258#32 (by decide)
      (val_main_v9 (F := Ideal) x) (val_main_call0_v15 (F := Ideal)) a₀ (fun i p => ⟨2 + 2 * i.val + p.val, by omega⟩) (fun i p => h i p) i p c
  have e := encoded x i c
  refine (congrArg₂ (FloatOps.mulf (F := Ideal) (φ := .f32)) (half_apply (val_main_v10 (F := Ideal) x a₀) 0 _ _ i c) (half_apply (val_main_v10 (F := Ideal) x a₀) 1 _ _ i c)).trans ?_
  rw [ht 0, ht 1]
  exact congrArg₂ (FloatOps.mulf (F := Ideal) (φ := .f32)) e.1 e.2

/-- The second: the sum of a pair. -/
theorem layer₁ (h : Lists 0 a₁) (i : Fin 64) (c : Fin 65536) : val_main_v17 (F := Ideal) x a₀ a₁ (at2 i c)
    = FloatOps.addf (F := Ideal) (φ := .f32) (val_main_v15 (F := Ideal) x a₀ (at2 ⟨2 * i.val, by omega⟩ c)) (val_main_v15 (F := Ideal) x a₀ (at2 ⟨2 * i.val + 1, by omega⟩ c)) := by
  have ht : ∀ p, val_main_v16 (F := Ideal) x a₀ a₁ (at3 i p c) = val_main_v15 (F := Ideal) x a₀ (at2 ⟨2 * i.val + p.val, by omega⟩ c) := fun p =>
    taken_apply gather_S128x65536_S64x2x1_S64x2x65536_2_0_n_n_0_2_165536 _ _ _ _ _ _ _ _ rfl rfl rfl rfl rfl rfl rfl 128#32 (by decide)
      (val_main_v15 (F := Ideal) x a₀) (val_main_call1_v15 (F := Ideal)) a₁ (fun i p => ⟨2 * i.val + p.val, by omega⟩)
      (fun i p => (h i p).trans (by rw [Nat.zero_add])) i p c
  refine (sum_apply (val_main_v16 (F := Ideal) x a₀ a₁) _ (by decide) _ i c).trans ?_
  rw [ht 0, ht 1]; rfl

/-- The third: the product of a pair. -/
theorem layer₂ (h : Lists 0 a₂) (i : Fin 32) (c : Fin 65536) : val_main_v23 (F := Ideal) x a₀ a₁ a₂ (at2 i c)
    = FloatOps.mulf (F := Ideal) (φ := .f32) (val_main_v17 (F := Ideal) x a₀ a₁ (at2 ⟨2 * i.val, by omega⟩ c)) (val_main_v17 (F := Ideal) x a₀ a₁ (at2 ⟨2 * i.val + 1, by omega⟩ c)) := by
  have ht : ∀ p, val_main_v18 (F := Ideal) x a₀ a₁ a₂ (at3 i p c) = val_main_v17 (F := Ideal) x a₀ a₁ (at2 ⟨2 * i.val + p.val, by omega⟩ c) := fun p =>
    taken_apply gather_S64x65536_S32x2x1_S32x2x65536_2_0_n_n_0_2_165536 _ _ _ _ _ _ _ _ rfl rfl rfl rfl rfl rfl rfl 64#32 (by decide)
      (val_main_v17 (F := Ideal) x a₀ a₁) (val_main_call2_v15 (F := Ideal)) a₂ (fun i p => ⟨2 * i.val + p.val, by omega⟩)
      (fun i p => (h i p).trans (by rw [Nat.zero_add])) i p c
  refine (congrArg₂ (FloatOps.mulf (F := Ideal) (φ := .f32)) (half_apply (val_main_v18 (F := Ideal) x a₀ a₁ a₂) 0 _ _ i c) (half_apply (val_main_v18 (F := Ideal) x a₀ a₁ a₂) 1 _ _ i c)).trans ?_
  rw [ht 0, ht 1]; rfl

/-- The fourth: the sum of a pair. -/
theorem layer₃ (h : Lists 0 a₃) (i : Fin 16) (c : Fin 65536) : val_main_v25 (F := Ideal) x a₀ a₁ a₂ a₃ (at2 i c)
    = FloatOps.addf (F := Ideal) (φ := .f32) (val_main_v23 (F := Ideal) x a₀ a₁ a₂ (at2 ⟨2 * i.val, by omega⟩ c)) (val_main_v23 (F := Ideal) x a₀ a₁ a₂ (at2 ⟨2 * i.val + 1, by omega⟩ c)) := by
  have ht : ∀ p, val_main_v24 (F := Ideal) x a₀ a₁ a₂ a₃ (at3 i p c) = val_main_v23 (F := Ideal) x a₀ a₁ a₂ (at2 ⟨2 * i.val + p.val, by omega⟩ c) := fun p =>
    taken_apply gather_S32x65536_S16x2x1_S16x2x65536_2_0_n_n_0_2_165536 _ _ _ _ _ _ _ _ rfl rfl rfl rfl rfl rfl rfl 32#32 (by decide)
      (val_main_v23 (F := Ideal) x a₀ a₁ a₂) (val_main_call3_v15 (F := Ideal)) a₃ (fun i p => ⟨2 * i.val + p.val, by omega⟩)
      (fun i p => (h i p).trans (by rw [Nat.zero_add])) i p c
  refine (sum_apply (val_main_v24 (F := Ideal) x a₀ a₁ a₂ a₃) _ (by decide) _ i c).trans ?_
  rw [ht 0, ht 1]; rfl

/-- The reference's result is the tree. -/
theorem result_eq (h₀ : Lists 2 a₀) (h₁ : Lists 0 a₁) (h₂ : Lists 0 a₂) (h₃ : Lists 0 a₃) :
    val_main_v25 (F := Ideal) x a₀ a₁ a₂ a₃ = Tree.tree (F := Ideal) (n := 65536) x := by
  funext z
  obtain ⟨i, c, rfl⟩ : ∃ (i : Fin 16) (c : Fin 65536), z = at2 i c := ⟨z 0, z 1, funext fun b => by fin_cases b <;> rfl⟩
  -- the gate of the row that the four layers reach is that of the tree's leaf
  have leaf : ∀ (k : Fin 8) (r : ℕ) (hr : r < 128), r = 8 * i.val + k.val →
      val_main_v15 (F := Ideal) x a₀ (at2 ⟨r, hr⟩ c) = Tree.gate (F := Ideal) (x (Tree.leafIx (n := 65536) (at2 i c) k)) := fun k r hr e => by
    subst e
    rw [layer₀ x a₀ h₀]
    exact congrArg (fun q => Tree.gate (F := Ideal) (x q)) (funext fun b => by fin_cases b <;> rfl)
  simp only [layer₃ x a₀ a₁ a₂ a₃ h₃, layer₂ x a₀ a₁ a₂ h₂, layer₁ x a₀ a₁ h₁]
  exact congrArg₂ (FloatOps.addf (F := Ideal) (φ := .f32))
    (congrArg₂ (FloatOps.mulf (F := Ideal) (φ := .f32)) (congrArg₂ (FloatOps.addf (F := Ideal) (φ := .f32)) (leaf 0 _ _ (by show _ = 8 * i.val + 0; omega)) (leaf 1 _ _ (by show _ = 8 * i.val + 1; omega)))
      (congrArg₂ (FloatOps.addf (F := Ideal) (φ := .f32)) (leaf 2 _ _ (by show _ = 8 * i.val + 2; omega)) (leaf 3 _ _ (by show _ = 8 * i.val + 3; omega))))
    (congrArg₂ (FloatOps.mulf (F := Ideal) (φ := .f32)) (congrArg₂ (FloatOps.addf (F := Ideal) (φ := .f32)) (leaf 4 _ _ (by show _ = 8 * i.val + 4; omega)) (leaf 5 _ _ (by show _ = 8 * i.val + 5; omega)))
      (congrArg₂ (FloatOps.addf (F := Ideal) (φ := .f32)) (leaf 6 _ _ (by show _ = 8 * i.val + 6; omega)) (leaf 7 _ _ (by show _ = 8 * i.val + 7; omega))))

end Layers

end Cert.ReferenceIdeal.Circuit

end
-- ==== Proof.lean ====
/-
  The claims of `Cert.Claim` (Defs.lean), assembled.

  - The kernel's frames, at either instance: its run (`run_main` of Proof/LaunchKernel.lean and Proof/LaunchIdeal.lean), its value dropped.
  - The reference's frames: its generated run; the program declares no semaphore.
  - The algebraic claim: the kernel's run leaves the tree of its argument (`Tree.tree`, Proof/Tree.lean), and so does the
    reference's where the index arrays are the circuit's (`Circuit.result_eq`, Proof/RefValue.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_circuit
public import proofs.«01_k».proof.Proof.LaunchKernel
public import proofs.«01_k».proof.Proof.LaunchIdeal
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments alone and every counter at zero. -/
theorem frame_kernel : Cert.quiescent_Kernel (hKernel := Cert.Kernel.Gen.facts) := fun m g _ =>
  (θ_run _ _ _).mono (fun _ h => ⟨fun c => (h.1 c).2, h.2⟩) (Cert.Kernel.Tile.run_main m g)

/-- So does the idealized kernel, from any memory. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Cert.KernelIdeal.Tile.Done m) :=
  Cert.KernelIdeal.Tile.run_main m g

theorem frame_kernelIdeal : Cert.quiescent_KernelIdeal (hKernelIdeal := Cert.KernelIdeal.Gen.facts) := fun m g _ =>
  (θ_run _ _ _).mono (fun _ h => ⟨fun c => (h.1 c).2, h.2⟩) (frame_ideal m g)

theorem frame_kernelIdeal_circuit :
    Cert.quiescent_KernelIdeal_pre_circuit (hKernelIdeal := Cert.KernelIdeal.Gen.facts) (hPre_circuit := Cert.Pre_circuit.Gen.facts) := fun m g _ =>
  frame_kernelIdeal m g trivial

/-- The reference runs and leaves its arguments alone; it declares no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

theorem frame_reference_circuit :
    Cert.quiescent_ReferenceIdeal_pre_circuit (hReferenceIdeal := Cert.ReferenceIdeal.Gen.facts) (hPre_circuit := Cert.Pre_circuit.Gen.facts) := fun m g _ =>
  frame_reference m g trivial

/-- Kernel and reference both end with the tree of the kernel's argument. -/
theorem values : Cert.algebraic_KernelIdeal_ReferenceIdeal_pre_circuit (hKernelIdeal := Cert.KernelIdeal.Gen.facts)
    (hReferenceIdeal := Cert.ReferenceIdeal.Gen.facts) (hPre_circuit := Cert.Pre_circuit.Gen.facts) := by
  intro m g m' g' hpre hargs
  refine ⟨fun c => Cert.KernelIdeal.Tile.result m c, (θ_run _ _ _).mono (fun _ h c => h.1 c) (frame_ideal m g),
    (θ_run _ _ _).mono (fun _ h c => ⟨(h c).1.trans ?_, (h c).2⟩) (Cert.ReferenceIdeal.Value.run (F := Ideal) m' g')⟩
  obtain ⟨e₀, e₁, e₂, e₃, e₄⟩ := hargs c
  obtain ⟨l₀, l₁, l₂, l₃⟩ := Cert.ReferenceIdeal.Circuit.lists_of_pre _ _ _ _ _ (hpre c)
  rw [Cert.ReferenceIdeal.Read.val_main_v25_eq, e₀, e₁, e₂, e₃, e₄]
  exact Cert.ReferenceIdeal.Circuit.result_eq _ _ _ _ _ l₀ l₁ l₂ l₃

theorem claim : Cert.Claim := ⟨Cert.Kernel.Gen.facts, Cert.KernelIdeal.Gen.facts, Cert.ReferenceIdeal.Gen.facts, Cert.Pre_circuit.Gen.facts,
  frame_kernel, frame_kernelIdeal, frame_kernelIdeal_circuit, frame_reference, frame_reference_circuit, trivial, values⟩

end Cert.Proof

end
